-- ==== Defs.lean ====
def Pre_Kernel [hPre_order_in_range : Cert.Pre_order_in_range.Facts] (m : (ℓ : Loc Cert.Kernel.nD Cert.Kernel.τ Cert.Kernel.sig) → Buf (Elt Bits) ℓ) : Prop :=
  ∀ c : Dev Cert.Kernel.nD,
    (Cert.Pre_order_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_order_in_range [hPre_order_in_range : Cert.Pre_order_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_order_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_order_in_range : Cert.Pre_order_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_order_in_range [hKernelIdeal : Cert.KernelIdeal.Facts] [hPre_order_in_range : Cert.Pre_order_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_order_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "ln8" .f32 0x40051592#32 ((Real.log 8 : ℝ) : EReal)
  ∧ IdealRules.named_const.Statement Cert.KernelIdeal.κ "pad" .f32 0xCE6E6B28#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_order_in_range : Cert.Pre_order_in_range.Facts) (hPre_finite : Cert.Pre_finite.Facts),
    quiescent_Kernel (hKernel := hKernel) (hPre_order_in_range := hPre_order_in_range)
    ∧ quiescent_KernelIdeal (hKernelIdeal := hKernelIdeal)
    ∧ quiescent_KernelIdeal_pre_order_in_range (hKernelIdeal := hKernelIdeal) (hPre_order_in_range := hPre_order_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x12x2048x64 : Shape := ⟨4, ![1, 12, 2048, 64]⟩
abbrev S_ : Shape := ⟨0, ![]⟩

class Facts : Prop where
  bcast_S_S1x12x2048x64 : S_.BroadcastsInDim S1x12x2048x64 (![] : Fin 0 → Fin S1x12x2048x64.rank)

variable [Facts]

def fn {F : FTy → Type} [FloatOps F] (main_arg0 : FVec F S1x12x2048x64 .f32) (main_arg1 : FVec F S1x12x2048x64 .f32) (main_arg2 : FVec F S1x12x2048x64 .f32) : IVec S1x12x2048x64 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_v3 : FVec F S1x12x2048x64 .f32 := Host.absf main_arg1
  let main_cst_0 : FVec F S_ .f32 := constant S_ .f32 0x7F800000#32
  let main_v4 : FVec F S1x12x2048x64 .f32 := broadcastInDim S1x12x2048x64 ![] bcast_S_S1x12x2048x64 main_cst_0
  let main_v5 : IVec S1x12x2048x64 1 := cmpf .olt main_v3 main_v4
  let main_v6 : IVec S1x12x2048x64 1 := andi main_v2 main_v5
  main_v6
-- ==== Pre_order_in_range.lean ====
abbrev S1x12x2048x64 : Shape := ⟨4, ![1, 12, 2048, 64]⟩
abbrev S1x12x1x32 : Shape := ⟨4, ![1, 12, 1, 32]⟩
abbrev S1x12x1x16 : Shape := ⟨4, ![1, 12, 1, 16]⟩
abbrev S1x12x16x128x64 : Shape := ⟨5, ![1, 12, 16, 128, 64]⟩
abbrev S12x32 : Shape := ⟨2, ![12, 32]⟩
abbrev S12x32x1 : Shape := ⟨3, ![12, 32, 1]⟩
abbrev S1x1x128 : Shape := ⟨3, ![1, 1, 128]⟩
abbrev S12x32x128 : Shape := ⟨3, ![12, 32, 128]⟩
abbrev S1x12x1x32x128x1 : Shape := ⟨6, ![1, 12, 1, 32, 128, 1]⟩
abbrev S1x12x16x1x128x64 : Shape := ⟨6, ![1, 12, 16, 1, 128, 64]⟩
abbrev S1x12x16x32x128x64 : Shape := ⟨6, ![1, 12, 16, 32, 128, 64]⟩
abbrev S_ : Shape := ⟨0, ![]⟩
abbrev S1x12x16x32x64 : Shape := ⟨5, ![1, 12, 16, 32, 64]⟩
abbrev S1x12x512x64 : Shape := ⟨4, ![1, 12, 512, 64]⟩
abbrev S1x12x32x64x64 : Shape := ⟨5, ![1, 12, 32, 64, 64]⟩
abbrev S12x16 : Shape := ⟨2, ![12, 16]⟩
abbrev S12x16x1 : Shape := ⟨3, ![12, 16, 1]⟩
abbrev S1x1x64 : Shape := ⟨3, ![1, 1, 64]⟩
abbrev S12x16x64 : Shape := ⟨3, ![12, 16, 64]⟩
abbrev S1x12x1x16x64x1 : Shape := ⟨6, ![1, 12, 1, 16, 64, 1]⟩
abbrev S1x12x32x1x64x64 : Shape := ⟨6, ![1, 12, 32, 1, 64, 64]⟩
abbrev S1x12x32x16x64x64 : Shape := ⟨6, ![1, 12, 32, 16, 64, 64]⟩
abbrev S1x12x32x16x64 : Shape := ⟨5, ![1, 12, 32, 16, 64]⟩
abbrev S1x12x512x512 : Shape := ⟨4, ![1, 12, 512, 512]⟩
abbrev S1x12x512 : Shape := ⟨3, ![1, 12, 512]⟩
abbrev S1x12x512x1 : Shape := ⟨4, ![1, 12, 512, 1]⟩
abbrev S1x12x16x32x32x16 : Shape := ⟨6, ![1, 12, 16, 32, 32, 16]⟩
abbrev S1x12x16x32x32 : Shape := ⟨5, ![1, 12, 16, 32, 32]⟩
abbrev S1x12x16x32 : Shape := ⟨4, ![1, 12, 16, 32]⟩
abbrev S1x12x16x32x1 : Shape := ⟨5, ![1, 12, 16, 32, 1]⟩
abbrev S1x12x16x1x32 : Shape := ⟨5, ![1, 12, 16, 1, 32]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S1x1x1x32x32 : Shape := ⟨5, ![1, 1, 1, 32, 32]⟩
abbrev S1x1x1x32x1 : Shape := ⟨5, ![1, 1, 1, 32, 1]⟩
abbrev S1x1x1x1x32 : Shape := ⟨5, ![1, 1, 1, 1, 32]⟩

class Facts : Prop where
  shapeCasts_S1x12x2048x64_S1x12x16x128x64 : S1x12x2048x64.ShapeCasts S1x12x16x128x64
  shapeCasts_S1x12x1x32_S12x32 : S1x12x1x32.ShapeCasts S12x32
  bcast_S12x32_S12x32x1_0_1 : S12x32.BroadcastsInDim S12x32x1 (![0, 1] : Fin 2 → Fin S12x32x1.rank)
  bcast_S12x32x1_S12x32x128_0_1_2 : S12x32x1.BroadcastsInDim S12x32x128 (![0, 1, 2] : Fin 3 → Fin S12x32x128.rank)
  bcast_S1x1x128_S12x32x128_0_1_2 : S1x1x128.BroadcastsInDim S12x32x128 (![0, 1, 2] : Fin 3 → Fin S12x32x128.rank)
  bcast_S12x32x128_S1x12x1x32x128x1_1_3_4 : S12x32x128.BroadcastsInDim S1x12x1x32x128x1 (![1, 3, 4] : Fin 3 → Fin S1x12x1x32x128x1.rank)
  bcast_S1x12x16x128x64_S1x12x16x1x128x64_0_1_2_4_5 : S1x12x16x128x64.BroadcastsInDim S1x12x16x1x128x64 (![0, 1, 2, 4, 5] : Fin 5 → Fin S1x12x16x1x128x64.rank)
  bcast_S1x12x1x32x128x1_S1x12x16x32x128x64_0_1_2_3_4_5 : S1x12x1x32x128x1.BroadcastsInDim S1x12x16x32x128x64 (![0, 1, 2, 3, 4, 5] : Fin 6 → Fin S1x12x16x32x128x64.rank)
  bcast_S1x12x16x1x128x64_S1x12x16x32x128x64_0_1_2_3_4_5 : S1x12x16x1x128x64.BroadcastsInDim S1x12x16x32x128x64 (![0, 1, 2, 3, 4, 5] : Fin 6 → Fin S1x12x16x32x128x64.rank)
  reducesTo_S1x12x16x32x128x64_S1x12x16x32x64_d4 : S1x12x16x32x128x64.ReducesTo [4] S1x12x16x32x64
  h_S_ : 0 < S_.numel
  shapeCasts_S1x12x16x32x64_S1x12x512x64 : S1x12x16x32x64.ShapeCasts S1x12x512x64
  shapeCasts_S1x12x2048x64_S1x12x32x64x64 : S1x12x2048x64.ShapeCasts S1x12x32x64x64
  shapeCasts_S1x12x1x16_S12x16 : S1x12x1x16.ShapeCasts S12x16
  bcast_S12x16_S12x16x1_0_1 : S12x16.BroadcastsInDim S12x16x1 (![0, 1] : Fin 2 → Fin S12x16x1.rank)
  bcast_S12x16x1_S12x16x64_0_1_2 : S12x16x1.BroadcastsInDim S12x16x64 (![0, 1, 2] : Fin 3 → Fin S12x16x64.rank)
  bcast_S1x1x64_S12x16x64_0_1_2 : S1x1x64.BroadcastsInDim S12x16x64 (![0, 1, 2] : Fin 3 → Fin S12x16x64.rank)
  bcast_S12x16x64_S1x12x1x16x64x1_1_3_4 : S12x16x64.BroadcastsInDim S1x12x1x16x64x1 (![1, 3, 4] : Fin 3 → Fin S1x12x1x16x64x1.rank)
  bcast_S1x12x32x64x64_S1x12x32x1x64x64_0_1_2_4_5 : S1x12x32x64x64.BroadcastsInDim S1x12x32x1x64x64 (![0, 1, 2, 4, 5] : Fin 5 → Fin S1x12x32x1x64x64.rank)
  bcast_S1x12x1x16x64x1_S1x12x32x16x64x64_0_1_2_3_4_5 : S1x12x1x16x64x1.BroadcastsInDim S1x12x32x16x64x64 (![0, 1, 2, 3, 4, 5] : Fin 6 → Fin S1x12x32x16x64x64.rank)
  bcast_S1x12x32x1x64x64_S1x12x32x16x64x64_0_1_2_3_4_5 : S1x12x32x1x64x64.BroadcastsInDim S1x12x32x16x64x64 (![0, 1, 2, 3, 4, 5] : Fin 6 → Fin S1x12x32x16x64x64.rank)
  reducesTo_S1x12x32x16x64x64_S1x12x32x16x64_d4 : S1x12x32x16x64x64.ReducesTo [4] S1x12x32x16x64
  shapeCasts_S1x12x32x16x64_S1x12x512x64 : S1x12x32x16x64.ShapeCasts S1x12x512x64
  bcast_S_S1x12x512x512 : S_.BroadcastsInDim S1x12x512x512 (![] : Fin 0 → Fin S1x12x512x512.rank)
  reducesTo_S1x12x512x512_S1x12x512_d3 : S1x12x512x512.ReducesTo [3] S1x12x512
  bcast_S_S1x12x512 : S_.BroadcastsInDim S1x12x512 (![] : Fin 0 → Fin S1x12x512.rank)
  bcast_S1x12x512_S1x12x512x1_0_1_2 : S1x12x512.BroadcastsInDim S1x12x512x1 (![0, 1, 2] : Fin 3 → Fin S1x12x512x1.rank)
  bcast_S1x12x512x1_S1x12x512x512_0_1_2_3 : S1x12x512x1.BroadcastsInDim S1x12x512x512 (![0, 1, 2, 3] : Fin 4 → Fin S1x12x512x512.rank)
  shapeCasts_S1x12x512x512_S1x12x16x32x32x16 : S1x12x512x512.ShapeCasts S1x12x16x32x32x16
  reducesTo_S1x12x16x32x32x16_S1x12x16x32x32_d5 : S1x12x16x32x32x16.ReducesTo [5] S1x12x16x32x32
  reducesTo_S1x12x16x32x32_S1x12x16x32_d3 : S1x12x16x32x32.ReducesTo [3] S1x12x16x32
  bcast_S_S1x12x16x32 : S_.BroadcastsInDim S1x12x16x32 (![] : Fin 0 → Fin S1x12x16x32.rank)
  bcast_S1x12x16x32_S1x12x16x32x1_0_1_2_3 : S1x12x16x32.BroadcastsInDim S1x12x16x32x1 (![0, 1, 2, 3] : Fin 4 → Fin S1x12x16x32x1.rank)
  bcast_S1x12x16x32_S1x12x16x1x32_0_1_2_4 : S1x12x16x32.BroadcastsInDim S1x12x16x1x32 (![0, 1, 2, 4] : Fin 4 → Fin S1x12x16x1x32.rank)
  bcast_S1x12x16x1x32_S1x12x16x32x32_0_1_2_3_4 : S1x12x16x1x32.BroadcastsInDim S1x12x16x32x32 (![0, 1, 2, 3, 4] : Fin 5 → Fin S1x12x16x32x32.rank)
  bcast_S1x12x16x32x1_S1x12x16x32x32_0_1_2_3_4 : S1x12x16x32x1.BroadcastsInDim S1x12x16x32x32 (![0, 1, 2, 3, 4] : Fin 5 → Fin S1x12x16x32x32.rank)
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S32x32_S1x1x1x32x32_3_4 : S32x32.BroadcastsInDim S1x1x1x32x32 (![3, 4] : Fin 2 → Fin S1x1x1x32x32.rank)
  bcast_S1x1x1x32x32_S1x12x16x32x32_0_1_2_3_4 : S1x1x1x32x32.BroadcastsInDim S1x12x16x32x32 (![0, 1, 2, 3, 4] : Fin 5 → Fin S1x12x16x32x32.rank)
  natLt_1_32 : 1 < 32
  reducesTo_S1x12x16x32x32_S1x12x16x32_d4 : S1x12x16x32x32.ReducesTo [4] S1x12x16x32
  bcast_S32x1_S1x1x1x32x1_3_4 : S32x1.BroadcastsInDim S1x1x1x32x1 (![3, 4] : Fin 2 → Fin S1x1x1x32x1.rank)
  bcast_S1x1x1x32x1_S1x12x16x32x32_0_1_2_3_4 : S1x1x1x32x1.BroadcastsInDim S1x12x16x32x32 (![0, 1, 2, 3, 4] : Fin 5 → Fin S1x12x16x32x32.rank)
  bcast_S1x32_S1x1x1x1x32_3_4 : S1x32.BroadcastsInDim S1x1x1x1x32 (![3, 4] : Fin 2 → Fin S1x1x1x1x32.rank)
  bcast_S1x1x1x1x32_S1x12x16x32x32_0_1_2_3_4 : S1x1x1x1x32.BroadcastsInDim S1x12x16x32x32 (![0, 1, 2, 3, 4] : Fin 5 → Fin S1x12x16x32x32.rank)
  dot_S1x12x512x64_S1x12x512x64_S1x12x512x512_3_3_2_2_01_01_wf : DotDims.WF S1x12x512x64 S1x12x512x64 S1x12x512x512 [3] [3] [2] [2] [0, 1] [0, 1]

variable [Facts]

def dot_S1x12x512x64_S1x12x512x64_S1x12x512x512_3_3_2_2_01_01 : DotDims S1x12x512x64 S1x12x512x64 S1x12x512x512 where
  lhsContracting := [3]
  rhsContracting := [3]
  lhsNonContracting := [2]
  rhsNonContracting := [2]
  lhsBatch := [0, 1]
  rhsBatch := [0, 1]
  wf := dot_S1x12x512x64_S1x12x512x64_S1x12x512x512_3_3_2_2_01_01_wf

noncomputable abbrev lit0 : Fin 384 → BitVec 32 := fun
  | 0 => 81#32 | 1 => 69#32 | 2 => 43#32 | 3 => 110#32 | 4 => 61#32 | 5 => 51#32 | 6 => 26#32 | 7 => 53#32
  | 8 => 120#32 | 9 => 87#32 | 10 => 12#32 | 11 => 60#32 | 12 => 114#32 | 13 => 109#32 | 14 => 64#32 | 15 => 28#32
  | 16 => 2#32 | 17 => 23#32 | 18 => 19#32 | 19 => 32#32 | 20 => 70#32 | 21 => 35#32 | 22 => 90#32 | 23 => 67#32
  | 24 => 54#32 | 25 => 25#32 | 26 => 97#32 | 27 => 92#32 | 28 => 104#32 | 29 => 74#32 | 30 => 27#32 | 31 => 55#32
  | 32 => 124#32 | 33 => 89#32 | 34 => 120#32 | 35 => 39#32 | 36 => 49#32 | 37 => 27#32 | 38 => 94#32 | 39 => 91#32
  | 40 => 64#32 | 41 => 103#32 | 42 => 18#32 | 43 => 76#32 | 44 => 4#32 | 45 => 47#32 | 46 => 100#32 | 47 => 83#32
  | 48 => 50#32 | 49 => 75#32 | 50 => 34#32 | 51 => 98#32 | 52 => 96#32 | 53 => 6#32 | 54 => 11#32 | 55 => 10#32
  | 56 => 9#32 | 57 => 25#32 | 58 => 15#32 | 59 => 20#32 | 60 => 0#32 | 61 => 31#32 | 62 => 41#32 | 63 => 62#32
  | 64 => 72#32 | 65 => 1#32 | 66 => 39#32 | 67 => 101#32 | 68 => 106#32 | 69 => 20#32 | 70 => 118#32 | 71 => 33#32
  | 72 => 109#32 | 73 => 32#32 | 74 => 63#32 | 75 => 124#32 | 76 => 7#32 | 77 => 51#32 | 78 => 43#32 | 79 => 119#32
  | 80 => 81#32 | 81 => 111#32 | 82 => 97#32 | 83 => 11#32 | 84 => 102#32 | 85 => 46#32 | 86 => 120#32 | 87 => 77#32
  | 88 => 114#32 | 89 => 50#32 | 90 => 74#32 | 91 => 73#32 | 92 => 70#32 | 93 => 16#32 | 94 => 12#32 | 95 => 67#32
  | 96 => 58#32 | 97 => 113#32 | 98 => 112#32 | 99 => 64#32 | 100 => 126#32 | 101 => 103#32 | 102 => 37#32 | 103 => 31#32
  | 104 => 35#32 | 105 => 53#32 | 106 => 76#32 | 107 => 49#32 | 108 => 33#32 | 109 => 119#32 | 110 => 56#32 | 111 => 7#32
  | 112 => 54#32 | 113 => 8#32 | 114 => 25#32 | 115 => 11#32 | 116 => 67#32 | 117 => 121#32 | 118 => 118#32 | 119 => 120#32
  | 120 => 83#32 | 121 => 57#32 | 122 => 39#32 | 123 => 127#32 | 124 => 85#32 | 125 => 3#32 | 126 => 93#32 | 127 => 69#32
  | 128 => 92#32 | 129 => 118#32 | 130 => 111#32 | 131 => 7#32 | 132 => 87#32 | 133 => 27#32 | 134 => 47#32 | 135 => 33#32
  | 136 => 43#32 | 137 => 9#32 | 138 => 126#32 | 139 => 75#32 | 140 => 95#32 | 141 => 112#32 | 142 => 18#32 | 143 => 74#32
  | 144 => 102#32 | 145 => 64#32 | 146 => 35#32 | 147 => 78#32 | 148 => 76#32 | 149 => 26#32 | 150 => 23#32 | 151 => 24#32
  | 152 => 94#32 | 153 => 55#32 | 154 => 99#32 | 155 => 72#32 | 156 => 37#32 | 157 => 13#32 | 158 => 104#32 | 159 => 49#32
  | 160 => 109#32 | 161 => 14#32 | 162 => 28#32 | 163 => 76#32 | 164 => 118#32 | 165 => 16#32 | 166 => 67#32 | 167 => 82#32
  | 168 => 7#32 | 169 => 120#32 | 170 => 121#32 | 171 => 123#32 | 172 => 3#32 | 173 => 87#32 | 174 => 61#32 | 175 => 13#32
  | 176 => 99#32 | 177 => 29#32 | 178 => 64#32 | 179 => 17#32 | 180 => 55#32 | 181 => 106#32 | 182 => 20#32 | 183 => 90#32
  | 184 => 2#32 | 185 => 72#32 | 186 => 40#32 | 187 => 115#32 | 188 => 110#32 | 189 => 4#32 | 190 => 15#32 | 191 => 104#32
  | 192 => 60#32 | 193 => 108#32 | 194 => 27#32 | 195 => 103#32 | 196 => 118#32 | 197 => 61#32 | 198 => 72#32 | 199 => 42#32
  | 200 => 45#32 | 201 => 54#32 | 202 => 35#32 | 203 => 63#32 | 204 => 70#32 | 205 => 0#32 | 206 => 58#32 | 207 => 33#32
  | 208 => 49#32 | 209 => 119#32 | 210 => 82#32 | 211 => 123#32 | 212 => 86#32 | 213 => 48#32 | 214 => 59#32 | 215 => 17#32
  | 216 => 1#32 | 217 => 83#32 | 218 => 68#32 | 219 => 53#32 | 220 => 114#32 | 221 => 106#32 | 222 => 62#32 | 223 => 98#32
  | 224 => 44#32 | 225 => 35#32 | 226 => 18#32 | 227 => 115#32 | 228 => 78#32 | 229 => 75#32 | 230 => 58#32 | 231 => 8#32
  | 232 => 60#32 | 233 => 41#32 | 234 => 53#32 | 235 => 29#32 | 236 => 28#32 | 237 => 95#32 | 238 => 2#32 | 239 => 31#32
  | 240 => 11#32 | 241 => 123#32 | 242 => 112#32 | 243 => 73#32 | 244 => 90#32 | 245 => 1#32 | 246 => 121#32 | 247 => 12#32
  | 248 => 7#32 | 249 => 108#32 | 250 => 16#32 | 251 => 39#32 | 252 => 56#32 | 253 => 45#32 | 254 => 126#32 | 255 => 6#32
  | 256 => 107#32 | 257 => 33#32 | 258 => 109#32 | 259 => 75#32 | 260 => 1#32 | 261 => 18#32 | 262 => 125#32 | 263 => 11#32
  | 264 => 102#32 | 265 => 106#32 | 266 => 93#32 | 267 => 64#32 | 268 => 31#32 | 269 => 121#32 | 270 => 0#32 | 271 => 23#32
  | 272 => 127#32 | 273 => 12#32 | 274 => 117#32 | 275 => 124#32 | 276 => 82#32 | 277 => 24#32 | 278 => 27#32 | 279 => 110#32
  | 280 => 55#32 | 281 => 14#32 | 282 => 113#32 | 283 => 112#32 | 284 => 88#32 | 285 => 98#32 | 286 => 65#32 | 287 => 54#32
  | 288 => 49#32 | 289 => 115#32 | 290 => 88#32 | 291 => 10#32 | 292 => 55#32 | 293 => 17#32 | 294 => 12#32 | 295 => 110#32
  | 296 => 29#32 | 297 => 48#32 | 298 => 83#32 | 299 => 107#32 | 300 => 108#32 | 301 => 79#32 | 302 => 58#32 | 303 => 105#32
  | 304 => 67#32 | 305 => 38#32 | 306 => 121#32 | 307 => 43#32 | 308 => 2#32 | 309 => 82#32 | 310 => 34#32 | 311 => 117#32
  | 312 => 109#32 | 313 => 74#32 | 314 => 127#32 | 315 => 118#32 | 316 => 19#32 | 317 => 41#32 | 318 => 57#32 | 319 => 18#32
  | 320 => 17#32 | 321 => 6#32 | 322 => 27#32 | 323 => 0#32 | 324 => 96#32 | 325 => 37#32 | 326 => 92#32 | 327 => 113#32
  | 328 => 8#32 | 329 => 85#32 | 330 => 62#32 | 331 => 80#32 | 332 => 26#32 | 333 => 110#32 | 334 => 47#32 | 335 => 31#32
  | 336 => 66#32 | 337 => 46#32 | 338 => 100#32 | 339 => 105#32 | 340 => 104#32 | 341 => 18#32 | 342 => 14#32 | 343 => 82#32
  | 344 => 45#32 | 345 => 60#32 | 346 => 108#32 | 347 => 106#32 | 348 => 2#32 | 349 => 20#32 | 350 => 112#32 | 351 => 78#32
  | 352 => 68#32 | 353 => 109#32 | 354 => 67#32 | 355 => 114#32 | 356 => 101#32 | 357 => 59#32 | 358 => 120#32 | 359 => 27#32
  | 360 => 70#32 | 361 => 55#32 | 362 => 113#32 | 363 => 127#32 | 364 => 89#32 | 365 => 117#32 | 366 => 22#32 | 367 => 30#32
  | 368 => 9#32 | 369 => 7#32 | 370 => 108#32 | 371 => 45#32 | 372 => 90#32 | 373 => 11#32 | 374 => 21#32 | 375 => 107#32
  | 376 => 19#32 | 377 => 53#32 | 378 => 79#32 | 379 => 63#32 | 380 => 72#32 | 381 => 32#32 | 382 => 47#32 | 383 => 86#32
  | _ => 0#32

noncomputable abbrev lit1 : Fin 192 → BitVec 32 := fun
  | 0 => 46#32 | 1 => 12#32 | 2 => 27#32 | 3 => 51#32 | 4 => 55#32 | 5 => 36#32 | 6 => 48#32 | 7 => 28#32
  | 8 => 1#32 | 9 => 57#32 | 10 => 26#32 | 11 => 21#32 | 12 => 41#32 | 13 => 0#32 | 14 => 23#32 | 15 => 38#32
  | 16 => 31#32 | 17 => 40#32 | 18 => 4#32 | 19 => 20#32 | 20 => 45#32 | 21 => 10#32 | 22 => 43#32 | 23 => 34#32
  | 24 => 63#32 | 25 => 39#32 | 26 => 27#32 | 27 => 36#32 | 28 => 58#32 | 29 => 56#32 | 30 => 55#32 | 31 => 49#32
  | 32 => 13#32 | 33 => 21#32 | 34 => 15#32 | 35 => 43#32 | 36 => 6#32 | 37 => 8#32 | 38 => 23#32 | 39 => 42#32
  | 40 => 34#32 | 41 => 44#32 | 42 => 54#32 | 43 => 18#32 | 44 => 53#32 | 45 => 40#32 | 46 => 37#32 | 47 => 38#32
  | 48 => 22#32 | 49 => 24#32 | 50 => 13#32 | 51 => 29#32 | 52 => 12#32 | 53 => 37#32 | 54 => 23#32 | 55 => 30#32
  | 56 => 32#32 | 57 => 60#32 | 58 => 35#32 | 59 => 33#32 | 60 => 16#32 | 61 => 1#32 | 62 => 34#32 | 63 => 21#32
  | 64 => 36#32 | 65 => 4#32 | 66 => 54#32 | 67 => 34#32 | 68 => 60#32 | 69 => 11#32 | 70 => 32#32 | 71 => 43#32
  | 72 => 61#32 | 73 => 40#32 | 74 => 63#32 | 75 => 26#32 | 76 => 37#32 | 77 => 14#32 | 78 => 50#32 | 79 => 41#32
  | 80 => 40#32 | 81 => 53#32 | 82 => 27#32 | 83 => 6#32 | 84 => 39#32 | 85 => 28#32 | 86 => 32#32 | 87 => 14#32
  | 88 => 38#32 | 89 => 23#32 | 90 => 8#32 | 91 => 2#32 | 92 => 45#32 | 93 => 9#32 | 94 => 52#32 | 95 => 57#32
  | 96 => 29#32 | 97 => 28#32 | 98 => 15#32 | 99 => 17#32 | 100 => 3#32 | 101 => 20#32 | 102 => 50#32 | 103 => 51#32
  | 104 => 10#32 | 105 => 44#32 | 106 => 24#32 | 107 => 46#32 | 108 => 0#32 | 109 => 12#32 | 110 => 49#32 | 111 => 34#32
  | 112 => 8#32 | 113 => 30#32 | 114 => 16#32 | 115 => 37#32 | 116 => 29#32 | 117 => 6#32 | 118 => 58#32 | 119 => 35#32
  | 120 => 50#32 | 121 => 48#32 | 122 => 44#32 | 123 => 54#32 | 124 => 57#32 | 125 => 18#32 | 126 => 17#32 | 127 => 1#32
  | 128 => 35#32 | 129 => 1#32 | 130 => 27#32 | 131 => 42#32 | 132 => 19#32 | 133 => 7#32 | 134 => 14#32 | 135 => 56#32
  | 136 => 11#32 | 137 => 9#32 | 138 => 25#32 | 139 => 18#32 | 140 => 60#32 | 141 => 22#32 | 142 => 62#32 | 143 => 34#32
  | 144 => 60#32 | 145 => 57#32 | 146 => 58#32 | 147 => 56#32 | 148 => 11#32 | 149 => 51#32 | 150 => 47#32 | 151 => 45#32
  | 152 => 44#32 | 153 => 40#32 | 154 => 52#32 | 155 => 0#32 | 156 => 3#32 | 157 => 48#32 | 158 => 61#32 | 159 => 32#32
  | 160 => 40#32 | 161 => 16#32 | 162 => 57#32 | 163 => 31#32 | 164 => 29#32 | 165 => 4#32 | 166 => 22#32 | 167 => 42#32
  | 168 => 26#32 | 169 => 52#32 | 170 => 39#32 | 171 => 15#32 | 172 => 36#32 | 173 => 28#32 | 174 => 8#32 | 175 => 18#32
  | 176 => 42#32 | 177 => 52#32 | 178 => 50#32 | 179 => 14#32 | 180 => 38#32 | 181 => 7#32 | 182 => 41#32 | 183 => 39#32
  | 184 => 43#32 | 185 => 29#32 | 186 => 57#32 | 187 => 34#32 | 188 => 27#32 | 189 => 9#32 | 190 => 40#32 | 191 => 54#32
  | _ => 0#32

def fn_one_hot {F : FTy → Type} [FloatOps F] (arg0 : IVec S12x32 32) : FVec F S12x32x128 .f32 :=
  let v0 : IVec S12x32x1 32 := broadcastInDim S12x32x1 ![0, 1] bcast_S12x32_S12x32x1_0_1 arg0
  let v1 : IVec S1x1x128 32 := iotaInDim S1x1x128 32 2
  let v2 : IVec S12x32x128 32 := broadcastInDim S12x32x128 ![0, 1, 2] bcast_S12x32x1_S12x32x128_0_1_2 v0
  let v3 : IVec S12x32x128 32 := broadcastInDim S12x32x128 ![0, 1, 2] bcast_S1x1x128_S12x32x128_0_1_2 v1
  let v4 : IVec S12x32x128 1 := cmpi .eq v2 v3
  let v5 : FVec F S12x32x128 .f32 := uitofp .f32 v4
  v5

def fn_one_hot_0 {F : FTy → Type} [FloatOps F] (arg0 : IVec S12x16 32) : FVec F S12x16x64 .f32 :=
  let v0 : IVec S12x16x1 32 := broadcastInDim S12x16x1 ![0, 1] bcast_S12x16_S12x16x1_0_1 arg0
  let v1 : IVec S1x1x64 32 := iotaInDim S1x1x64 32 2
  let v2 : IVec S12x16x64 32 := broadcastInDim S12x16x64 ![0, 1, 2] bcast_S12x16x1_S12x16x64_0_1_2 v0
  let v3 : IVec S12x16x64 32 := broadcastInDim S12x16x64 ![0, 1, 2] bcast_S1x1x64_S12x16x64_0_1_2 v1
  let v4 : IVec S12x16x64 1 := cmpi .eq v2 v3
  let v5 : FVec F S12x16x64 .f32 := uitofp .f32 v4
  v5

def fn_part3 {F : FTy → Type} [FloatOps F] (main_v41 : IVec S32 32) (main_v59 : IVec S1x12x16x1x32 32) : IVec S1x12x16x32 1 :=
  let main_v60 : IVec S32x1 32 := broadcastInDim S32x1 ![0] bcast_S32_S32x1_0 main_v41
  let main_v61 : IVec S1x1x1x32x1 32 := broadcastInDim S1x1x1x32x1 ![3, 4] bcast_S32x1_S1x1x1x32x1_3_4 main_v60
  let main_v62 : IVec S1x12x16x32x32 32 := broadcastInDim S1x12x16x32x32 ![0, 1, 2, 3, 4] bcast_S1x12x16x1x32_S1x12x16x32x32_0_1_2_3_4 main_v59
  let main_v63 : IVec S1x12x16x32x32 32 := broadcastInDim S1x12x16x32x32 ![0, 1, 2, 3, 4] bcast_S1x1x1x32x1_S1x12x16x32x32_0_1_2_3_4 main_v61
  let main_v64 : IVec S1x12x16x32x32 1 := cmpi .eq main_v62 main_v63
  let main_v65 : IVec S1x12x16x32x32 32 := (extui 32 · natLt_1_32) main_v64
  let main_v66 : IVec S1x32 32 := broadcastInDim S1x32 ![1] bcast_S32_S1x32_1 main_v41
  let main_v67 : IVec S1x1x1x1x32 32 := broadcastInDim S1x1x1x1x32 ![3, 4] bcast_S1x32_S1x1x1x1x32_3_4 main_v66
  let main_v68 : IVec S1x12x16x32x32 32 := broadcastInDim S1x12x16x32x32 ![0, 1, 2, 3, 4] bcast_S1x1x1x1x32_S1x12x16x32x32_0_1_2_3_4 main_v67
  let main_v69 : IVec S1x12x16x32x32 32 := muli main_v65 main_v68
  let main_c_10 : IVec S_ 32 := constantI S_ 32 0#32
  let main_v70 : IVec S1x12x16x32 32 := (fun x v => Host.reduce IntOp.addi x v reducesTo_S1x12x16x32x32_S1x12x16x32_d4 h_S_) main_v69 main_c_10
  let main_c_11 : IVec S_ 32 := constantI S_ 32 0#32
  let main_v71 : IVec S1x12x16x32 32 := broadcastInDim S1x12x16x32 ![] bcast_S_S1x12x16x32 main_c_11
  let main_v72 : IVec S1x12x16x32 1 := cmpi .sge main_v70 main_v71
  let main_c_12 : IVec S_ 32 := constantI S_ 32 32#32
  let main_v73 : IVec S1x12x16x32 32 := broadcastInDim S1x12x16x32 ![] bcast_S_S1x12x16x32 main_c_12
  let main_v74 : IVec S1x12x16x32 1 := cmpi .slt main_v70 main_v73
  let main_v75 : IVec S1x12x16x32 1 := andi main_v72 main_v74
  main_v75

def fn_part2 {F : FTy → Type} [FloatOps F] (main_v36 : FVec F S1x12x16x32 .f32) (main_cst_8 : FVec F S_ .f32) : IVec S1x12x16x32 1 :=
  let main_v37 : FVec F S1x12x16x32 .f32 := broadcastInDim S1x12x16x32 ![] bcast_S_S1x12x16x32 main_cst_8
  let main_v38 : FVec F S1x12x16x32 .f32 := Host.divf main_v36 main_v37
  let main_v39 : FVec F S1x12x16x32x1 .f32 := broadcastInDim S1x12x16x32x1 ![0, 1, 2, 3] bcast_S1x12x16x32_S1x12x16x32x1_0_1_2_3 main_v38
  let main_v40 : FVec F S1x12x16x1x32 .f32 := broadcastInDim S1x12x16x1x32 ![0, 1, 2, 4] bcast_S1x12x16x32_S1x12x16x1x32_0_1_2_4 main_v38
  let main_v41 : IVec S32 32 := iotaInDim S32 32 0
  let main_v42 : FVec F S1x12x16x32x32 .f32 := broadcastInDim S1x12x16x32x32 ![0, 1, 2, 3, 4] bcast_S1x12x16x1x32_S1x12x16x32x32_0_1_2_3_4 main_v40
  let main_v43 : FVec F S1x12x16x32x32 .f32 := broadcastInDim S1x12x16x32x32 ![0, 1, 2, 3, 4] bcast_S1x12x16x32x1_S1x12x16x32x32_0_1_2_3_4 main_v39
  let main_v44 : IVec S1x12x16x32x32 1 := cmpf .ogt main_v42 main_v43
  let main_v45 : FVec F S1x12x16x32x32 .f32 := broadcastInDim S1x12x16x32x32 ![0, 1, 2, 3, 4] bcast_S1x12x16x1x32_S1x12x16x32x32_0_1_2_3_4 main_v40
  let main_v46 : FVec F S1x12x16x32x32 .f32 := broadcastInDim S1x12x16x32x32 ![0, 1, 2, 3, 4] bcast_S1x12x16x32x1_S1x12x16x32x32_0_1_2_3_4 main_v39
  let main_v47 : IVec S1x12x16x32x32 1 := cmpf .oeq main_v45 main_v46
  let main_v48 : IVec S1x32 32 := broadcastInDim S1x32 ![1] bcast_S32_S1x32_1 main_v41
  let main_v49 : IVec S32x1 32 := broadcastInDim S32x1 ![0] bcast_S32_S32x1_0 main_v41
  let main_v50 : IVec S32x32 32 := broadcastInDim S32x32 ![0, 1] bcast_S1x32_S32x32_0_1 main_v48
  let main_v51 : IVec S32x32 32 := broadcastInDim S32x32 ![0, 1] bcast_S32x1_S32x32_0_1 main_v49
  let main_v52 : IVec S32x32 1 := cmpi .slt main_v50 main_v51
  let main_v53 : IVec S1x1x1x32x32 1 := broadcastInDim S1x1x1x32x32 ![3, 4] bcast_S32x32_S1x1x1x32x32_3_4 main_v52
  let main_v54 : IVec S1x12x16x32x32 1 := broadcastInDim S1x12x16x32x32 ![0, 1, 2, 3, 4] bcast_S1x1x1x32x32_S1x12x16x32x32_0_1_2_3_4 main_v53
  let main_v55 : IVec S1x12x16x32x32 1 := andi main_v47 main_v54
  let main_v56 : IVec S1x12x16x32x32 1 := ori main_v44 main_v55
  let main_v57 : IVec S1x12x16x32x32 32 := (extui 32 · natLt_1_32) main_v56
  let main_c_9 : IVec S_ 32 := constantI S_ 32 0#32
  let main_v58 : IVec S1x12x16x32 32 := (fun x v => Host.reduce IntOp.addi x v reducesTo_S1x12x16x32x32_S1x12x16x32_d4 h_S_) main_v57 main_c_9
  let main_v59 : IVec S1x12x16x1x32 32 := broadcastInDim S1x12x16x1x32 ![0, 1, 2, 4] bcast_S1x12x16x32_S1x12x16x1x32_0_1_2_4 main_v58
  fn_part3 (F := F) main_v41 main_v59

def fn_part1 {F : FTy → Type} [FloatOps F] (main_v9 : FVec F S1x12x512x64 .f32) (main_v19 : FVec F S1x12x512x64 .f32) : IVec S1x12x16x32 1 :=
  let main_v20 : FVec F S1x12x512x512 .f32 := (fun l r => Host.dotGeneral dot_S1x12x512x64_S1x12x512x64_S1x12x512x512_3_3_2_2_01_01 none l r) main_v9 main_v19
  let main_cst_2 : FVec F S_ .f32 := constant S_ .f32 0x3E000000#32
  let main_v21 : FVec F S1x12x512x512 .f32 := broadcastInDim S1x12x512x512 ![] bcast_S_S1x12x512x512 main_cst_2
  let main_v22 : FVec F S1x12x512x512 .f32 := mulf main_v20 main_v21
  let main_cst_3 : FVec F S_ .f32 := constant S_ .f32 0xFF800000#32
  let main_v23 : FVec F S1x12x512 .f32 := (fun x v => Host.reduce FloatOps.maximumf x v reducesTo_S1x12x512x512_S1x12x512_d3 h_S_) main_v22 main_cst_3
  let main_cst_4 : FVec F S_ .f32 := constant S_ .f32 0xFF800000#32
  let main_v24 : FVec F S1x12x512 .f32 := broadcastInDim S1x12x512 ![] bcast_S_S1x12x512 main_cst_4
  let main_v25 : FVec F S1x12x512 .f32 := maximumf main_v24 main_v23
  let main_v26 : FVec F S1x12x512x1 .f32 := broadcastInDim S1x12x512x1 ![0, 1, 2] bcast_S1x12x512_S1x12x512x1_0_1_2 main_v25
  let main_v27 : FVec F S1x12x512x512 .f32 := broadcastInDim S1x12x512x512 ![0, 1, 2, 3] bcast_S1x12x512x1_S1x12x512x512_0_1_2_3 main_v26
  let main_v28 : FVec F S1x12x512x512 .f32 := subf main_v22 main_v27
  let main_v29 : FVec F S1x12x512x512 .f32 := Host.exp main_v28
  let main_cst_5 : FVec F S_ .f32 := constant S_ .f32 0x00000000#32
  let main_v30 : FVec F S1x12x512 .f32 := (fun x v => Host.reduceAdd x v reducesTo_S1x12x512x512_S1x12x512_d3 h_S_) main_v29 main_cst_5
  let main_v31 : FVec F S1x12x512x1 .f32 := broadcastInDim S1x12x512x1 ![0, 1, 2] bcast_S1x12x512_S1x12x512x1_0_1_2 main_v30
  let main_v32 : FVec F S1x12x512x512 .f32 := broadcastInDim S1x12x512x512 ![0, 1, 2, 3] bcast_S1x12x512x1_S1x12x512x512_0_1_2_3 main_v31
  let main_v33 : FVec F S1x12x512x512 .f32 := Host.divf main_v29 main_v32
  let main_v34 : FVec F S1x12x16x32x32x16 .f32 := shapeCast S1x12x16x32x32x16 main_v33 shapeCasts_S1x12x512x512_S1x12x16x32x32x16
  let main_cst_6 : FVec F S_ .f32 := constant S_ .f32 0x00000000#32
  let main_v35 : FVec F S1x12x16x32x32 .f32 := (fun x v => Host.reduceAdd x v reducesTo_S1x12x16x32x32x16_S1x12x16x32x32_d5 h_S_) main_v34 main_cst_6
  let main_cst_7 : FVec F S_ .f32 := constant S_ .f32 0x00000000#32
  let main_v36 : FVec F S1x12x16x32 .f32 := (fun x v => Host.reduceAdd x v reducesTo_S1x12x16x32x32_S1x12x16x32_d3 h_S_) main_v35 main_cst_7
  let main_cst_8 : FVec F S_ .f32 := constant S_ .f32 0x42000000#32
  fn_part2 (F := F) main_v36 main_cst_8

def fn {F : FTy → Type} [FloatOps F] (main_arg0 : FVec F S1x12x2048x64 .f32) (main_arg1 : FVec F S1x12x2048x64 .f32) (main_arg2 : FVec F S1x12x2048x64 .f32) : IVec S1x12x16x32 1 :=
  let main_c : IVec S1x12x1x32 32 := fun i => lit0 (S1x12x1x32.rowMajor i)
  let main_c_0 : IVec S1x12x1x16 32 := fun i => lit1 (S1x12x1x16.rowMajor i)
  let main_v0 : FVec F S1x12x16x128x64 .f32 := shapeCast S1x12x16x128x64 main_arg0 shapeCasts_S1x12x2048x64_S1x12x16x128x64
  let main_v1 : IVec S12x32 32 := shapeCast S12x32 main_c shapeCasts_S1x12x1x32_S12x32
  let main_v2 : FVec F S12x32x128 .f32 := fn_one_hot (F := F) main_v1
  let main_v3 : FVec F S1x12x1x32x128x1 .f32 := broadcastInDim S1x12x1x32x128x1 ![1, 3, 4] bcast_S12x32x128_S1x12x1x32x128x1_1_3_4 main_v2
  let main_v4 : FVec F S1x12x16x1x128x64 .f32 := broadcastInDim S1x12x16x1x128x64 ![0, 1, 2, 4, 5] bcast_S1x12x16x128x64_S1x12x16x1x128x64_0_1_2_4_5 main_v0
  let main_v5 : FVec F S1x12x16x32x128x64 .f32 := broadcastInDim S1x12x16x32x128x64 ![0, 1, 2, 3, 4, 5] bcast_S1x12x1x32x128x1_S1x12x16x32x128x64_0_1_2_3_4_5 main_v3
  let main_v6 : FVec F S1x12x16x32x128x64 .f32 := broadcastInDim S1x12x16x32x128x64 ![0, 1, 2, 3, 4, 5] bcast_S1x12x16x1x128x64_S1x12x16x32x128x64_0_1_2_3_4_5 main_v4
  let main_v7 : FVec F S1x12x16x32x128x64 .f32 := mulf main_v5 main_v6
  let main_cst : FVec F S_ .f32 := constant S_ .f32 0x00000000#32
  let main_v8 : FVec F S1x12x16x32x64 .f32 := (fun x v => Host.reduceAdd x v reducesTo_S1x12x16x32x128x64_S1x12x16x32x64_d4 h_S_) main_v7 main_cst
  let main_v9 : FVec F S1x12x512x64 .f32 := shapeCast S1x12x512x64 main_v8 shapeCasts_S1x12x16x32x64_S1x12x512x64
  let main_v10 : FVec F S1x12x32x64x64 .f32 := shapeCast S1x12x32x64x64 main_arg1 shapeCasts_S1x12x2048x64_S1x12x32x64x64
  let main_v11 : IVec S12x16 32 := shapeCast S12x16 main_c_0 shapeCasts_S1x12x1x16_S12x16
  let main_v12 : FVec F S12x16x64 .f32 := fn_one_hot_0 (F := F) main_v11
  let main_v13 : FVec F S1x12x1x16x64x1 .f32 := broadcastInDim S1x12x1x16x64x1 ![1, 3, 4] bcast_S12x16x64_S1x12x1x16x64x1_1_3_4 main_v12
  let main_v14 : FVec F S1x12x32x1x64x64 .f32 := broadcastInDim S1x12x32x1x64x64 ![0, 1, 2, 4, 5] bcast_S1x12x32x64x64_S1x12x32x1x64x64_0_1_2_4_5 main_v10
  let main_v15 : FVec F S1x12x32x16x64x64 .f32 := broadcastInDim S1x12x32x16x64x64 ![0, 1, 2, 3, 4, 5] bcast_S1x12x1x16x64x1_S1x12x32x16x64x64_0_1_2_3_4_5 main_v13
  let main_v16 : FVec F S1x12x32x16x64x64 .f32 := broadcastInDim S1x12x32x16x64x64 ![0, 1, 2, 3, 4, 5] bcast_S1x12x32x1x64x64_S1x12x32x16x64x64_0_1_2_3_4_5 main_v14
  let main_v17 : FVec F S1x12x32x16x64x64 .f32 := mulf main_v15 main_v16
  let main_cst_1 : FVec F S_ .f32 := constant S_ .f32 0x00000000#32
  let main_v18 : FVec F S1x12x32x16x64 .f32 := (fun x v => Host.reduceAdd x v reducesTo_S1x12x32x16x64x64_S1x12x32x16x64_d4 h_S_) main_v17 main_cst_1
  let main_v19 : FVec F S1x12x512x64 .f32 := shapeCast S1x12x512x64 main_v18 shapeCasts_S1x12x32x16x64_S1x12x512x64
  fn_part1 (F := F) main_v9 main_v19
-- ==== Kernel.lean ====
abbrev S1x12x2048x64 : Shape := ⟨4, ![1, 12, 2048, 64]⟩
abbrev S1x12x1x32 : Shape := ⟨4, ![1, 12, 1, 32]⟩
abbrev S1x12x1x16 : Shape := ⟨4, ![1, 12, 1, 16]⟩
abbrev S1x12x16x128x64 : Shape := ⟨5, ![1, 12, 16, 128, 64]⟩
abbrev S12x32 : Shape := ⟨2, ![12, 32]⟩
abbrev S12x32x1 : Shape := ⟨3, ![12, 32, 1]⟩
abbrev S1x1x128 : Shape := ⟨3, ![1, 1, 128]⟩
abbrev S12x32x128 : Shape := ⟨3, ![12, 32, 128]⟩
abbrev S1x12x1x32x128x1 : Shape := ⟨6, ![1, 12, 1, 32, 128, 1]⟩
abbrev S1x12x16x1x128x64 : Shape := ⟨6, ![1, 12, 16, 1, 128, 64]⟩
abbrev S1x12x16x32x128x64 : Shape := ⟨6, ![1, 12, 16, 32, 128, 64]⟩
abbrev S_ : Shape := ⟨0, ![]⟩
abbrev S1x12x16x32x64 : Shape := ⟨5, ![1, 12, 16, 32, 64]⟩
abbrev S1x12x512x64 : Shape := ⟨4, ![1, 12, 512, 64]⟩
abbrev S1x12x32x64x64 : Shape := ⟨5, ![1, 12, 32, 64, 64]⟩
abbrev S12x16 : Shape := ⟨2, ![12, 16]⟩
abbrev S12x16x1 : Shape := ⟨3, ![12, 16, 1]⟩
abbrev S1x1x64 : Shape := ⟨3, ![1, 1, 64]⟩
abbrev S12x16x64 : Shape := ⟨3, ![12, 16, 64]⟩
abbrev S1x12x1x16x64x1 : Shape := ⟨6, ![1, 12, 1, 16, 64, 1]⟩
abbrev S1x12x32x1x64x64 : Shape := ⟨6, ![1, 12, 32, 1, 64, 64]⟩
abbrev S1x12x32x16x64x64 : Shape := ⟨6, ![1, 12, 32, 16, 64, 64]⟩
abbrev S1x12x32x16x64 : Shape := ⟨5, ![1, 12, 32, 16, 64]⟩
abbrev S1x12x512x512 : Shape := ⟨4, ![1, 12, 512, 512]⟩
abbrev S1x12x512 : Shape := ⟨3, ![1, 12, 512]⟩
abbrev S1x12x512x1 : Shape := ⟨4, ![1, 12, 512, 1]⟩
abbrev S1x12x16x32x32x16 : Shape := ⟨6, ![1, 12, 16, 32, 32, 16]⟩
abbrev S1x12x16x32x32 : Shape := ⟨5, ![1, 12, 16, 32, 32]⟩
abbrev S1x12x16x32 : Shape := ⟨4, ![1, 12, 16, 32]⟩
abbrev S1x12x16x32x1 : Shape := ⟨5, ![1, 12, 16, 32, 1]⟩
abbrev S1x12x16x1x32 : Shape := ⟨5, ![1, 12, 16, 1, 32]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S1x1x1x32x32 : Shape := ⟨5, ![1, 1, 1, 32, 32]⟩
abbrev S1x1x1x32x1 : Shape := ⟨5, ![1, 1, 1, 32, 1]⟩
abbrev S1x1x1x1x32 : Shape := ⟨5, ![1, 1, 1, 1, 32]⟩
abbrev S12x16x32 : Shape := ⟨3, ![12, 16, 32]⟩
abbrev S1x1x128x64 : Shape := ⟨4, ![1, 1, 128, 64]⟩
abbrev S1x1x2048x64 : Shape := ⟨4, ![1, 1, 2048, 64]⟩
abbrev S1024x64 : Shape := ⟨2, ![1024, 64]⟩
abbrev S256x64 : Shape := ⟨2, ![256, 64]⟩
abbrev S384x64 : Shape := ⟨2, ![384, 64]⟩
abbrev S40x64 : Shape := ⟨2, ![40, 64]⟩
abbrev S1x1x64x64 : Shape := ⟨4, ![1, 1, 64, 64]⟩
abbrev S64x64 : Shape := ⟨2, ![64, 64]⟩
abbrev S32x64 : Shape := ⟨2, ![32, 64]⟩
abbrev S8x64 : Shape := ⟨2, ![8, 64]⟩
abbrev S1x1x1 : Shape := ⟨3, ![1, 1, 1]⟩
abbrev S128x64 : Shape := ⟨2, ![128, 64]⟩
abbrev S64x384 : Shape := ⟨2, ![64, 384]⟩
abbrev S128x384 : Shape := ⟨2, ![128, 384]⟩
abbrev S1x384 : Shape := ⟨2, ![1, 384]⟩
abbrev S128 : Shape := ⟨1, ![128]⟩
abbrev S128x1 : Shape := ⟨2, ![128, 1]⟩

abbrev nBuf : Space → Nat
  | .hbm => 99
  | .vmem => 14
  | .smem => 1
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S1x12x1x32, .i32⟩
  | .hbm, ⟨4, _⟩ => ⟨S1x12x1x16, .i32⟩
  | .hbm, ⟨5, _⟩ => ⟨S1x12x16x128x64, .f32⟩
  | .hbm, ⟨6, _⟩ => ⟨S12x32, .i32⟩
  | .hbm, ⟨7, _⟩ => ⟨S12x32x1, .i32⟩
  | .hbm, ⟨8, _⟩ => ⟨S1x1x128, .i32⟩
  | .hbm, ⟨9, _⟩ => ⟨S12x32x128, .i32⟩
  | .hbm, ⟨10, _⟩ => ⟨S12x32x128, .i32⟩
  | .hbm, ⟨11, _⟩ => ⟨S12x32x128, .i1⟩
  | .hbm, ⟨12, _⟩ => ⟨S12x32x128, .f32⟩
  | .hbm, ⟨13, _⟩ => ⟨S1x12x1x32x128x1, .f32⟩
  | .hbm, ⟨14, _⟩ => ⟨S1x12x16x1x128x64, .f32⟩
  | .hbm, ⟨15, _⟩ => ⟨S1x12x16x32x128x64, .f32⟩
  | .hbm, ⟨16, _⟩ => ⟨S1x12x16x32x128x64, .f32⟩
  | .hbm, ⟨17, _⟩ => ⟨S1x12x16x32x128x64, .f32⟩
  | .hbm, ⟨18, _⟩ => ⟨S_, .f32⟩
  | .hbm, ⟨19, _⟩ => ⟨S1x12x16x32x64, .f32⟩
  | .hbm, ⟨20, _⟩ => ⟨S1x12x512x64, .f32⟩
  | .hbm, ⟨21, _⟩ => ⟨S1x12x32x64x64, .f32⟩
  | .hbm, ⟨22, _⟩ => ⟨S12x16, .i32⟩
  | .hbm, ⟨23, _⟩ => ⟨S12x16x1, .i32⟩
  | .hbm, ⟨24, _⟩ => ⟨S1x1x64, .i32⟩
  | .hbm, ⟨25, _⟩ => ⟨S12x16x64, .i32⟩
  | .hbm, ⟨26, _⟩ => ⟨S12x16x64, .i32⟩
  | .hbm, ⟨27, _⟩ => ⟨S12x16x64, .i1⟩
  | .hbm, ⟨28, _⟩ => ⟨S12x16x64, .f32⟩
  | .hbm, ⟨29, _⟩ => ⟨S1x12x1x16x64x1, .f32⟩
  | .hbm, ⟨30, _⟩ => ⟨S1x12x32x1x64x64, .f32⟩
  | .hbm, ⟨31, _⟩ => ⟨S1x12x32x16x64x64, .f32⟩
  | .hbm, ⟨32, _⟩ => ⟨S1x12x32x16x64x64, .f32⟩
  | .hbm, ⟨33, _⟩ => ⟨S1x12x32x16x64x64, .f32⟩
  | .hbm, ⟨34, _⟩ => ⟨S_, .f32⟩
  | .hbm, ⟨35, _⟩ => ⟨S1x12x32x16x64, .f32⟩
  | .hbm, ⟨36, _⟩ => ⟨S1x12x512x64, .f32⟩
  | .hbm, ⟨37, _⟩ => ⟨S1x12x512x512, .f32⟩
  | .hbm, ⟨38, _⟩ => ⟨S_, .f32⟩
  | .hbm, ⟨39, _⟩ => ⟨S1x12x512x512, .f32⟩
  | .hbm, ⟨40, _⟩ => ⟨S1x12x512x512, .f32⟩
  | .hbm, ⟨41, _⟩ => ⟨S_, .f32⟩
  | .hbm, ⟨42, _⟩ => ⟨S1x12x512, .f32⟩
  | .hbm, ⟨43, _⟩ => ⟨S_, .f32⟩
  | .hbm, ⟨44, _⟩ => ⟨S1x12x512, .f32⟩
  | .hbm, ⟨45, _⟩ => ⟨S1x12x512, .f32⟩
  | .hbm, ⟨46, _⟩ => ⟨S1x12x512x1, .f32⟩
  | .hbm, ⟨47, _⟩ => ⟨S1x12x512x512, .f32⟩
  | .hbm, ⟨48, _⟩ => ⟨S1x12x512x512, .f32⟩
  | .hbm, ⟨49, _⟩ => ⟨S1x12x512x512, .f32⟩
  | .hbm, ⟨50, _⟩ => ⟨S_, .f32⟩
  | .hbm, ⟨51, _⟩ => ⟨S1x12x512, .f32⟩
  | .hbm, ⟨52, _⟩ => ⟨S1x12x512x1, .f32⟩
  | .hbm, ⟨53, _⟩ => ⟨S1x12x512x512, .f32⟩
  | .hbm, ⟨54, _⟩ => ⟨S1x12x512x512, .f32⟩
  | .hbm, ⟨55, _⟩ => ⟨S1x12x16x32x32x16, .f32⟩
  | .hbm, ⟨56, _⟩ => ⟨S_, .f32⟩
  | .hbm, ⟨57, _⟩ => ⟨S1x12x16x32x32, .f32⟩
  | .hbm, ⟨58, _⟩ => ⟨S_, .f32⟩
  | .hbm, ⟨59, _⟩ => ⟨S1x12x16x32, .f32⟩
  | .hbm, ⟨60, _⟩ => ⟨S_, .f32⟩
  | .hbm, ⟨61, _⟩ => ⟨S1x12x16x32, .f32⟩
  | .hbm, ⟨62, _⟩ => ⟨S1x12x16x32, .f32⟩
  | .hbm, ⟨63, _⟩ => ⟨S1x12x16x32x1, .f32⟩
  | .hbm, ⟨64, _⟩ => ⟨S1x12x16x1x32, .f32⟩
  | .hbm, ⟨65, _⟩ => ⟨S32, .i32⟩
  | .hbm, ⟨66, _⟩ => ⟨S1x12x16x32x32, .f32⟩
  | .hbm, ⟨67, _⟩ => ⟨S1x12x16x32x32, .f32⟩
  | .hbm, ⟨68, _⟩ => ⟨S1x12x16x32x32, .i1⟩
  | .hbm, ⟨69, _⟩ => ⟨S1x12x16x32x32, .f32⟩
  | .hbm, ⟨70, _⟩ => ⟨S1x12x16x32x32, .f32⟩
  | .hbm, ⟨71, _⟩ => ⟨S1x12x16x32x32, .i1⟩
  | .hbm, ⟨72, _⟩ => ⟨S1x32, .i32⟩
  | .hbm, ⟨73, _⟩ => ⟨S32x1, .i32⟩
  | .hbm, ⟨74, _⟩ => ⟨S32x32, .i32⟩
  | .hbm, ⟨75, _⟩ => ⟨S32x32, .i32⟩
  | .hbm, ⟨76, _⟩ => ⟨S32x32, .i1⟩
  | .hbm, ⟨77, _⟩ => ⟨S1x1x1x32x32, .i1⟩
  | .hbm, ⟨78, _⟩ => ⟨S1x12x16x32x32, .i1⟩
  | .hbm, ⟨79, _⟩ => ⟨S1x12x16x32x32, .i1⟩
  | .hbm, ⟨80, _⟩ => ⟨S1x12x16x32x32, .i1⟩
  | .hbm, ⟨81, _⟩ => ⟨S1x12x16x32x32, .i32⟩
  | .hbm, ⟨82, _⟩ => ⟨S_, .i32⟩
  | .hbm, ⟨83, _⟩ => ⟨S1x12x16x32, .i32⟩
  | .hbm, ⟨84, _⟩ => ⟨S1x12x16x1x32, .i32⟩
  | .hbm, ⟨85, _⟩ => ⟨S32x1, .i32⟩
  | .hbm, ⟨86, _⟩ => ⟨S1x1x1x32x1, .i32⟩
  | .hbm, ⟨87, _⟩ => ⟨S1x12x16x32x32, .i32⟩
  | .hbm, ⟨88, _⟩ => ⟨S1x12x16x32x32, .i32⟩
  | .hbm, ⟨89, _⟩ => ⟨S1x12x16x32x32, .i1⟩
  | .hbm, ⟨90, _⟩ => ⟨S1x12x16x32x32, .i32⟩
  | .hbm, ⟨91, _⟩ => ⟨S1x32, .i32⟩
  | .hbm, ⟨92, _⟩ => ⟨S1x1x1x1x32, .i32⟩
  | .hbm, ⟨93, _⟩ => ⟨S1x12x16x32x32, .i32⟩
  | .hbm, ⟨94, _⟩ => ⟨S1x12x16x32x32, .i32⟩
  | .hbm, ⟨95, _⟩ => ⟨S_, .i32⟩
  | .hbm, ⟨96, _⟩ => ⟨S1x12x16x32, .i32⟩
  | .hbm, ⟨97, _⟩ => ⟨S12x16x32, .i32⟩
  | .hbm, ⟨98, _⟩ => ⟨S1x12x2048x64, .f32⟩
  | .local _ .vmem, ⟨0, _⟩ => ⟨S1x1x128x64, .f32⟩
  | .local _ .vmem, ⟨1, _⟩ => ⟨S1x1x128x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x128x64, .f32⟩
  | .local _ .vmem, ⟨7, _⟩ => ⟨S1x1x128x64, .f32⟩
  | .local _ .vmem, ⟨8, _⟩ => ⟨S1024x64, .f32⟩
  | .local _ .vmem, ⟨9, _⟩ => ⟨S256x64, .f32⟩
  | .local _ .vmem, ⟨10, _⟩ => ⟨S1024x64, .f32⟩
  | .local _ .vmem, ⟨11, _⟩ => ⟨S256x64, .f32⟩
  | .local _ .vmem, ⟨12, _⟩ => ⟨S384x64, .f32⟩
  | .local _ .vmem, ⟨13, _⟩ => ⟨S384x64, .f32⟩
  | .local _ .smem, ⟨0, _⟩ => ⟨S12x16x32, .i32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_10 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 16], ![false, false]⟩

def k0_off1 (i : grid0.Coords) : Fin 3 → Nat :=
  let arg0 : BitVec 32 := BitVec.ofNat 32 (i 0).val
  let v3 : Index := Scalar.indexCast arg0
  let arg1 : BitVec 32 := BitVec.ofNat 32 (i 1).val
  let v4 : Index := Scalar.indexCast arg1
  let c0 : Index := 0#32
  ![v3.toNat, v4.toNat, 0]
def k0_off2 (v5 : BitVec 32) : Fin 4 → Nat :=
  let c0_1 : Index := 0#32
  let c0_2 : Index := 0#32
  let c64_i32 : BitVec 32 := 64#32
  let v6 : BitVec 32 := Scalar.muli v5 c64_i32
  let v7 : Index := Scalar.indexCast v6
  let c0_3 : Index := 0#32
  ![0, 0, v7.toNat, 0]

def k0_chk1 (v5 : BitVec 32) : Prop :=
  (∀ a, (k0_off2 v5) a + S1x1x64x64.size a ≤ S1x1x2048x64.size a)
theorem k0_off2_inb : ∀ (v5 : BitVec 32) (k0_hw1 : k0_chk1 v5), ∀ a, (k0_off2 v5) a + S1x1x64x64.size a ≤ S1x1x2048x64.size a := fun v5 k0_hw1 => k0_hw1

def k0_off3 (i : grid0.Coords) : Fin 3 → Nat :=
  let arg0 : BitVec 32 := BitVec.ofNat 32 (i 0).val
  let v20 : Index := Scalar.indexCast arg0
  let arg1 : BitVec 32 := BitVec.ofNat 32 (i 1).val
  let v21 : Index := Scalar.indexCast arg1
  let c1 : Index := 1#32
  ![v20.toNat, v21.toNat, 1]
def k0_off4 (v22 : BitVec 32) : Fin 4 → Nat :=
  let c0_13 : Index := 0#32
  let c0_14 : Index := 0#32
  let c64_i32_12 : BitVec 32 := 64#32
  let v23 : BitVec 32 := Scalar.muli v22 c64_i32_12
  let v24 : Index := Scalar.indexCast v23
  let c0_15 : Index := 0#32
  ![0, 0, v24.toNat, 0]

def k0_chk2 (v22 : BitVec 32) : Prop :=
  (∀ a, (k0_off4 v22) a + S1x1x64x64.size a ≤ S1x1x2048x64.size a)
theorem k0_off4_inb : ∀ (v22 : BitVec 32) (k0_hw2 : k0_chk2 v22), ∀ a, (k0_off4 v22) a + S1x1x64x64.size a ≤ S1x1x2048x64.size a := fun v22 k0_hw2 => k0_hw2

def k0_off5 (i : grid0.Coords) : Fin 3 → Nat :=
  let arg0 : BitVec 32 := BitVec.ofNat 32 (i 0).val
  let v37 : Index := Scalar.indexCast arg0
  let arg1 : BitVec 32 := BitVec.ofNat 32 (i 1).val
  let v38 : Index := Scalar.indexCast arg1
  let c2 : Index := 2#32
  ![v37.toNat, v38.toNat, 2]
def k0_off6 (v39 : BitVec 32) : Fin 4 → Nat :=
  let c0_24 : Index := 0#32
  let c0_25 : Index := 0#32
  let c64_i32_23 : BitVec 32 := 64#32
  let v40 : BitVec 32 := Scalar.muli v39 c64_i32_23
  let v41 : Index := Scalar.indexCast v40
  let c0_26 : Index := 0#32
  ![0, 0, v41.toNat, 0]

def k0_chk3 (v39 : BitVec 32) : Prop :=
  (∀ a, (k0_off6 v39) a + S1x1x64x64.size a ≤ S1x1x2048x64.size a)
theorem k0_off6_inb : ∀ (v39 : BitVec 32) (k0_hw3 : k0_chk3 v39), ∀ a, (k0_off6 v39) a + S1x1x64x64.size a ≤ S1x1x2048x64.size a := fun v39 k0_hw3 => k0_hw3

def k0_off7 (i : grid0.Coords) : Fin 3 → Nat :=
  let arg0 : BitVec 32 := BitVec.ofNat 32 (i 0).val
  let v54 : Index := Scalar.indexCast arg0
  let arg1 : BitVec 32 := BitVec.ofNat 32 (i 1).val
  let v55 : Index := Scalar.indexCast arg1
  let c3 : Index := 3#32
  ![v54.toNat, v55.toNat, 3]
def k0_off8 (v56 : BitVec 32) : Fin 4 → Nat :=
  let c0_35 : Index := 0#32
  let c0_36 : Index := 0#32
  let c64_i32_34 : BitVec 32 := 64#32
  let v57 : BitVec 32 := Scalar.muli v56 c64_i32_34
  let v58 : Index := Scalar.indexCast v57
  let c0_37 : Index := 0#32
  ![0, 0, v58.toNat, 0]

def k0_chk4 (v56 : BitVec 32) : Prop :=
  (∀ a, (k0_off8 v56) a + S1x1x64x64.size a ≤ S1x1x2048x64.size a)
theorem k0_off8_inb : ∀ (v56 : BitVec 32) (k0_hw4 : k0_chk4 v56), ∀ a, (k0_off8 v56) a + S1x1x64x64.size a ≤ S1x1x2048x64.size a := fun v56 k0_hw4 => k0_hw4

def k0_off9 (i : grid0.Coords) : Fin 3 → Nat :=
  let arg0 : BitVec 32 := BitVec.ofNat 32 (i 0).val
  let v71 : Index := Scalar.indexCast arg0
  let arg1 : BitVec 32 := BitVec.ofNat 32 (i 1).val
  let v72 : Index := Scalar.indexCast arg1
  let c4 : Index := 4#32
  ![v71.toNat, v72.toNat, 4]
def k0_off10 (v73 : BitVec 32) : Fin 2 → Nat :=
  let c32_i32 : BitVec 32 := 32#32
  let v74 : BitVec 32 := Scalar.muli v73 c32_i32
  let v75 : Index := Scalar.indexCast v74
  let c0_45 : Index := 0#32
  ![v75.toNat, 0]

def k0_chk5 (v73 : BitVec 32) : Prop :=
  (∀ a, (k0_off10 v73) a + S32x64.size a ≤ S1024x64.size a)
theorem k0_off10_inb : ∀ (v73 : BitVec 32) (k0_hw5 : k0_chk5 v73), ∀ a, (k0_off10 v73) a + S32x64.size a ≤ S1024x64.size a := fun v73 k0_hw5 => k0_hw5

def k0_off11 (i : grid0.Coords) : Fin 3 → Nat :=
  let arg0 : BitVec 32 := BitVec.ofNat 32 (i 0).val
  let v86 : Index := Scalar.indexCast arg0
  let arg1 : BitVec 32 := BitVec.ofNat 32 (i 1).val
  let v87 : Index := Scalar.indexCast arg1
  let c5 : Index := 5#32
  ![v86.toNat, v87.toNat, 5]
def k0_off12 (v88 : BitVec 32) : Fin 2 → Nat :=
  let c8_i32 : BitVec 32 := 8#32
  let v89 : BitVec 32 := Scalar.muli v88 c8_i32
  let v90 : Index := Scalar.indexCast v89
  let c0_51 : Index := 0#32
  ![v90.toNat, 0]

def k0_chk6 (v88 : BitVec 32) : Prop :=
  (∀ a, (k0_off12 v88) a + S8x64.size a ≤ S256x64.size a)
theorem k0_off12_inb : ∀ (v88 : BitVec 32) (k0_hw6 : k0_chk6 v88), ∀ a, (k0_off12 v88) a + S8x64.size a ≤ S256x64.size a := fun v88 k0_hw6 => k0_hw6

def k0_off13 (i : grid0.Coords) : Fin 3 → Nat :=
  let arg0 : BitVec 32 := BitVec.ofNat 32 (i 0).val
  let v101 : Index := Scalar.indexCast arg0
  let arg1 : BitVec 32 := BitVec.ofNat 32 (i 1).val
  let v102 : Index := Scalar.indexCast arg1
  let c6 : Index := 6#32
  ![v101.toNat, v102.toNat, 6]
def k0_off14 (v103 : BitVec 32) : Fin 2 → Nat :=
  let c8_i32_57 : BitVec 32 := 8#32
  let v104 : BitVec 32 := Scalar.muli v103 c8_i32_57
  let v105 : Index := Scalar.indexCast v104
  let c0_58 : Index := 0#32
  ![v105.toNat, 0]

def k0_chk7 (v103 : BitVec 32) : Prop :=
  (∀ a, (k0_off14 v103) a + S8x64.size a ≤ S256x64.size a)
theorem k0_off14_inb : ∀ (v103 : BitVec 32) (k0_hw7 : k0_chk7 v103), ∀ a, (k0_off14 v103) a + S8x64.size a ≤ S256x64.size a := fun v103 k0_hw7 => k0_hw7

def k0_off15 (i : grid0.Coords) : Fin 3 → Nat :=
  let arg0 : BitVec 32 := BitVec.ofNat 32 (i 0).val
  let v116 : Index := Scalar.indexCast arg0
  let arg1 : BitVec 32 := BitVec.ofNat 32 (i 1).val
  let v117 : Index := Scalar.indexCast arg1
  let c7 : Index := 7#32
  ![v116.toNat, v117.toNat, 7]
def k0_off16 (v118 : BitVec 32) : Fin 2 → Nat :=
  let c8_i32_64 : BitVec 32 := 8#32
  let v119 : BitVec 32 := Scalar.muli v118 c8_i32_64
  let v120 : Index := Scalar.indexCast v119
  let c0_65 : Index := 0#32
  ![v120.toNat, 0]

def k0_chk8 (v118 : BitVec 32) : Prop :=
  (∀ a, (k0_off16 v118) a + S8x64.size a ≤ S256x64.size a)
theorem k0_off16_inb : ∀ (v118 : BitVec 32) (k0_hw8 : k0_chk8 v118), ∀ a, (k0_off16 v118) a + S8x64.size a ≤ S256x64.size a := fun v118 k0_hw8 => k0_hw8

def k0_off17 (i : grid0.Coords) : Fin 3 → Nat :=
  let arg0 : BitVec 32 := BitVec.ofNat 32 (i 0).val
  let v131 : Index := Scalar.indexCast arg0
  let arg1 : BitVec 32 := BitVec.ofNat 32 (i 1).val
  let v132 : Index := Scalar.indexCast arg1
  let c8 : Index := 8#32
  ![v131.toNat, v132.toNat, 8]
def k0_off18 (v133 : BitVec 32) : Fin 2 → Nat :=
  let c8_i32_71 : BitVec 32 := 8#32
  let v134 : BitVec 32 := Scalar.muli v133 c8_i32_71
  let v135 : Index := Scalar.indexCast v134
  let c0_72 : Index := 0#32
  ![v135.toNat, 0]

def k0_chk9 (v133 : BitVec 32) : Prop :=
  (∀ a, (k0_off18 v133) a + S8x64.size a ≤ S256x64.size a)
theorem k0_off18_inb : ∀ (v133 : BitVec 32) (k0_hw9 : k0_chk9 v133), ∀ a, (k0_off18 v133) a + S8x64.size a ≤ S256x64.size a := fun v133 k0_hw9 => k0_hw9

def k0_off19 (i : grid0.Coords) : Fin 3 → Nat :=
  let arg0 : BitVec 32 := BitVec.ofNat 32 (i 0).val
  let v146 : Index := Scalar.indexCast arg0
  let arg1 : BitVec 32 := BitVec.ofNat 32 (i 1).val
  let v147 : Index := Scalar.indexCast arg1
  let c9 : Index := 9#32
  ![v146.toNat, v147.toNat, 9]
def k0_off20 (v148 : BitVec 32) : Fin 2 → Nat :=
  let c8_i32_78 : BitVec 32 := 8#32
  let v149 : BitVec 32 := Scalar.muli v148 c8_i32_78
  let v150 : Index := Scalar.indexCast v149
  let c0_79 : Index := 0#32
  ![v150.toNat, 0]

def k0_chk10 (v148 : BitVec 32) : Prop :=
  (∀ a, (k0_off20 v148) a + S8x64.size a ≤ S256x64.size a)
theorem k0_off20_inb : ∀ (v148 : BitVec 32) (k0_hw10 : k0_chk10 v148), ∀ a, (k0_off20 v148) a + S8x64.size a ≤ S256x64.size a := fun v148 k0_hw10 => k0_hw10

def k0_off21 (i : grid0.Coords) : Fin 3 → Nat :=
  let arg0 : BitVec 32 := BitVec.ofNat 32 (i 0).val
  let v161 : Index := Scalar.indexCast arg0
  let arg1 : BitVec 32 := BitVec.ofNat 32 (i 1).val
  let v162 : Index := Scalar.indexCast arg1
  let c10 : Index := 10#32
  ![v161.toNat, v162.toNat, 10]
def k0_off22 (v163 : BitVec 32) : Fin 2 → Nat :=
  let c8_i32_85 : BitVec 32 := 8#32
  let v164 : BitVec 32 := Scalar.muli v163 c8_i32_85
  let v165 : Index := Scalar.indexCast v164
  let c0_86 : Index := 0#32
  ![v165.toNat, 0]

def k0_chk11 (v163 : BitVec 32) : Prop :=
  (∀ a, (k0_off22 v163) a + S8x64.size a ≤ S256x64.size a)
theorem k0_off22_inb : ∀ (v163 : BitVec 32) (k0_hw11 : k0_chk11 v163), ∀ a, (k0_off22 v163) a + S8x64.size a ≤ S256x64.size a := fun v163 k0_hw11 => k0_hw11

def k0_off23 (i : grid0.Coords) : Fin 3 → Nat :=
  let arg0 : BitVec 32 := BitVec.ofNat 32 (i 0).val
  let v176 : Index := Scalar.indexCast arg0
  let arg1 : BitVec 32 := BitVec.ofNat 32 (i 1).val
  let v177 : Index := Scalar.indexCast arg1
  let c11 : Index := 11#32
  ![v176.toNat, v177.toNat, 11]
def k0_off24 (v178 : BitVec 32) : Fin 2 → Nat :=
  let c8_i32_92 : BitVec 32 := 8#32
  let v179 : BitVec 32 := Scalar.muli v178 c8_i32_92
  let v180 : Index := Scalar.indexCast v179
  let c0_93 : Index := 0#32
  ![v180.toNat, 0]

def k0_chk12 (v178 : BitVec 32) : Prop :=
  (∀ a, (k0_off24 v178) a + S8x64.size a ≤ S256x64.size a)
theorem k0_off24_inb : ∀ (v178 : BitVec 32) (k0_hw12 : k0_chk12 v178), ∀ a, (k0_off24 v178) a + S8x64.size a ≤ S256x64.size a := fun v178 k0_hw12 => k0_hw12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .smem S12x16x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "ln2" => some ((Real.log 2 : ℝ) : EReal)
  | "ln8" => some ((Real.log 8 : ℝ) : EReal)
  | "pad" => some ⊥
  | _ => none
-- ==== ReferenceIdeal.lean ====
abbrev S1x12x2048x64 : Shape := ⟨4, ![1, 12, 2048, 64]⟩
abbrev S1x12x1x32 : Shape := ⟨4, ![1, 12, 1, 32]⟩
abbrev S1x12x1x16 : Shape := ⟨4, ![1, 12, 1, 16]⟩
abbrev S1x12x16x128x64 : Shape := ⟨5, ![1, 12, 16, 128, 64]⟩
abbrev S1x12x1x32x1 : Shape := ⟨5, ![1, 12, 1, 32, 1]⟩
abbrev S1x12x16x32x64 : Shape := ⟨5, ![1, 12, 16, 32, 64]⟩
abbrev S_ : Shape := ⟨0, ![]⟩
abbrev S12x16x32x64x1 : Shape := ⟨5, ![12, 16, 32, 64, 1]⟩
abbrev S1 : Shape := ⟨1, ![1]⟩
abbrev S1x1x1x1x1 : Shape := ⟨5, ![1, 1, 1, 1, 1]⟩
abbrev S12x16x32x64 : Shape := ⟨4, ![12, 16, 32, 64]⟩
abbrev S1x12x512x64 : Shape := ⟨4, ![1, 12, 512, 64]⟩
abbrev S1x12x32x64x64 : Shape := ⟨5, ![1, 12, 32, 64, 64]⟩
abbrev S1x12x1x16x1 : Shape := ⟨5, ![1, 12, 1, 16, 1]⟩
abbrev S1x12x32x16x64 : Shape := ⟨5, ![1, 12, 32, 16, 64]⟩
abbrev S12x32x16x64x1 : Shape := ⟨5, ![12, 32, 16, 64, 1]⟩
abbrev S12x32x16x64 : Shape := ⟨4, ![12, 32, 16, 64]⟩
abbrev S1x12x512x512 : Shape := ⟨4, ![1, 12, 512, 512]⟩
abbrev S1x12x512 : Shape := ⟨3, ![1, 12, 512]⟩
abbrev S1x12x512x1 : Shape := ⟨4, ![1, 12, 512, 1]⟩
abbrev S1x12x16x32x32x16 : Shape := ⟨6, ![1, 12, 16, 32, 32, 16]⟩
abbrev S1x12x16x32x32 : Shape := ⟨5, ![1, 12, 16, 32, 32]⟩
abbrev S1x12x16x32 : Shape := ⟨4, ![1, 12, 16, 32]⟩
abbrev S1x12x2048x1x64 : Shape := ⟨5, ![1, 12, 2048, 1, 64]⟩
abbrev S1x12x1024x2x64 : Shape := ⟨5, ![1, 12, 1024, 2, 64]⟩
abbrev S1x12x1024x64 : Shape := ⟨4, ![1, 12, 1024, 64]⟩
abbrev S1x12x512x4x64 : Shape := ⟨5, ![1, 12, 512, 4, 64]⟩
abbrev S1x12x256x8x64 : Shape := ⟨5, ![1, 12, 256, 8, 64]⟩
abbrev S1x12x256x64 : Shape := ⟨4, ![1, 12, 256, 64]⟩
abbrev S1x1x12x2048x64 : Shape := ⟨5, ![1, 1, 12, 2048, 64]⟩
abbrev S4x1x12x2048x64 : Shape := ⟨5, ![4, 1, 12, 2048, 64]⟩
abbrev S1x12x16x2048 : Shape := ⟨4, ![1, 12, 16, 2048]⟩
abbrev S1x12x16x2048x1 : Shape := ⟨5, ![1, 12, 16, 2048, 1]⟩
abbrev S1x1x1x1x4 : Shape := ⟨5, ![1, 1, 1, 1, 4]⟩
abbrev S1x12x16x2048x4 : Shape := ⟨5, ![1, 12, 16, 2048, 4]⟩
abbrev S1x12x2048x16x64 : Shape := ⟨5, ![1, 12, 2048, 16, 64]⟩
abbrev S1x12x16x2048x64 : Shape := ⟨5, ![1, 12, 16, 2048, 64]⟩
abbrev S1x12x16x128x2048 : Shape := ⟨5, ![1, 12, 16, 128, 2048]⟩
abbrev S1x12x16x1x2048 : Shape := ⟨5, ![1, 12, 16, 1, 2048]⟩
abbrev S1x12x16x128 : Shape := ⟨4, ![1, 12, 16, 128]⟩
abbrev S1x12x16x128x1 : Shape := ⟨5, ![1, 12, 16, 128, 1]⟩

abbrev nBuf : Space → Nat
  | .hbm => 262
  | .vmem => 0
  | .smem => 0
  | _ => 0

abbrev hbmTy0_0 (i : Nat) : BufTy := match i % 128 with
  | 0 => ⟨S1x12x2048x64, .f32⟩
  | 1 => ⟨S1x12x2048x64, .f32⟩
  | 2 => ⟨S1x12x2048x64, .f32⟩
  | 3 => ⟨S1x12x1x32, .i32⟩
  | 4 => ⟨S1x12x1x16, .i32⟩
  | 5 => ⟨S1x12x16x128x64, .f32⟩
  | 6 => ⟨S1x12x1x32x1, .i32⟩
  | 7 => ⟨S1x12x16x32x64, .i32⟩
  | 8 => ⟨S_, .i32⟩
  | 9 => ⟨S1x12x16x32x64, .i32⟩
  | 10 => ⟨S1x12x16x32x64, .i1⟩
  | 11 => ⟨S_, .i32⟩
  | 12 => ⟨S1x12x16x32x64, .i32⟩
  | 13 => ⟨S1x12x16x32x64, .i32⟩
  | 14 => ⟨S1x12x16x32x64, .i32⟩
  | 15 => ⟨S12x16x32x64x1, .i32⟩
  | 16 => ⟨S1, .i32⟩
  | 17 => ⟨S_, .i32⟩
  | 18 => ⟨S12x16x32x64x1, .i32⟩
  | 19 => ⟨S12x16x32x64x1, .i1⟩
  | 20 => ⟨S1x1x1x1x1, .i32⟩
  | 21 => ⟨S12x16x32x64x1, .i32⟩
  | 22 => ⟨S12x16x32x64x1, .i1⟩
  | 23 => ⟨S12x16x32x64x1, .i1⟩
  | 24 => ⟨S_, .i1⟩
  | 25 => ⟨S12x16x32x64, .i1⟩
  | 26 => ⟨S1x12x16x32x64, .f32⟩
  | 27 => ⟨S1x12x16x32x64, .i1⟩
  | 28 => ⟨S_, .f32⟩
  | 29 => ⟨S1x12x16x32x64, .f32⟩
  | 30 => ⟨S1x12x16x32x64, .f32⟩
  | 31 => ⟨S1x12x512x64, .f32⟩
  | 32 => ⟨S1x12x32x64x64, .f32⟩
  | 33 => ⟨S1x12x1x16x1, .i32⟩
  | 34 => ⟨S1x12x32x16x64, .i32⟩
  | 35 => ⟨S_, .i32⟩
  | 36 => ⟨S1x12x32x16x64, .i32⟩
  | 37 => ⟨S1x12x32x16x64, .i1⟩
  | 38 => ⟨S_, .i32⟩
  | 39 => ⟨S1x12x32x16x64, .i32⟩
  | 40 => ⟨S1x12x32x16x64, .i32⟩
  | 41 => ⟨S1x12x32x16x64, .i32⟩
  | 42 => ⟨S12x32x16x64x1, .i32⟩
  | 43 => ⟨S1, .i32⟩
  | 44 => ⟨S_, .i32⟩
  | 45 => ⟨S12x32x16x64x1, .i32⟩
  | 46 => ⟨S12x32x16x64x1, .i1⟩
  | 47 => ⟨S1x1x1x1x1, .i32⟩
  | 48 => ⟨S12x32x16x64x1, .i32⟩
  | 49 => ⟨S12x32x16x64x1, .i1⟩
  | 50 => ⟨S12x32x16x64x1, .i1⟩
  | 51 => ⟨S_, .i1⟩
  | 52 => ⟨S12x32x16x64, .i1⟩
  | 53 => ⟨S1x12x32x16x64, .f32⟩
  | 54 => ⟨S1x12x32x16x64, .i1⟩
  | 55 => ⟨S_, .f32⟩
  | 56 => ⟨S1x12x32x16x64, .f32⟩
  | 57 => ⟨S1x12x32x16x64, .f32⟩
  | 58 => ⟨S1x12x512x64, .f32⟩
  | 59 => ⟨S1x12x512x512, .f32⟩
  | 60 => ⟨S_, .f32⟩
  | 61 => ⟨S1x12x512x512, .f32⟩
  | 62 => ⟨S1x12x512x512, .f32⟩
  | 63 => ⟨S_, .f32⟩
  | 64 => ⟨S1x12x512, .f32⟩
  | 65 => ⟨S_, .f32⟩
  | 66 => ⟨S1x12x512, .f32⟩
  | 67 => ⟨S1x12x512, .f32⟩
  | 68 => ⟨S1x12x512x1, .f32⟩
  | 69 => ⟨S1x12x512x512, .f32⟩
  | 70 => ⟨S1x12x512x512, .f32⟩
  | 71 => ⟨S1x12x512x512, .f32⟩
  | 72 => ⟨S_, .f32⟩
  | 73 => ⟨S1x12x512, .f32⟩
  | 74 => ⟨S1x12x512x1, .f32⟩
  | 75 => ⟨S1x12x512x512, .f32⟩
  | 76 => ⟨S1x12x512x512, .f32⟩
  | 77 => ⟨S1x12x16x32x32x16, .f32⟩
  | 78 => ⟨S_, .f32⟩
  | 79 => ⟨S1x12x16x32x32, .f32⟩
  | 80 => ⟨S_, .f32⟩
  | 81 => ⟨S1x12x16x32, .f32⟩
  | 82 => ⟨S_, .f32⟩
  | 83 => ⟨S1x12x16x32, .f32⟩
  | 84 => ⟨S1x12x16x32, .f32⟩
  | 85 => ⟨S1x12x16x32, .f32⟩
  | 86 => ⟨S1x12x16x32, .i32⟩
  | 87 => ⟨S1x12x16x32, .f32⟩
  | 88 => ⟨S1x12x16x32, .i32⟩
  | 89 => ⟨S1x12x16x32, .i32⟩
  | 90 => ⟨S1x12x16x32, .i32⟩
  | 91 => ⟨S1x12x16x32, .i32⟩
  | 92 => ⟨S1x12x16x32, .f32⟩
  | 93 => ⟨S_, .f32⟩
  | 94 => ⟨S1x12x16x32, .f32⟩
  | 95 => ⟨S1x12x16x32, .f32⟩
  | 96 => ⟨S_, .f32⟩
  | 97 => ⟨S1x12x16x32, .f32⟩
  | 98 => ⟨S1x12x16x32, .i1⟩
  | 99 => ⟨S_, .f32⟩
  | 100 => ⟨S1x12x16x32, .f32⟩
  | 101 => ⟨S1x12x16x32, .i1⟩
  | 102 => ⟨S_, .f32⟩
  | 103 => ⟨S1x12x16x32, .f32⟩
  | 104 => ⟨S1x12x16x32, .i1⟩
  | 105 => ⟨S_, .i32⟩
  | 106 => ⟨S_, .i32⟩
  | 107 => ⟨S1x12x16x32, .i32⟩
  | 108 => ⟨S1x12x16x32, .i32⟩
  | 109 => ⟨S1x12x16x32, .i32⟩
  | 110 => ⟨S_, .i32⟩
  | 111 => ⟨S1x12x16x32, .i32⟩
  | 112 => ⟨S1x12x16x32, .i32⟩
  | 113 => ⟨S_, .i32⟩
  | 114 => ⟨S1x12x16x32, .i32⟩
  | 115 => ⟨S1x12x16x32, .i32⟩
  | 116 => ⟨S1x12x16x32, .i32⟩
  | 117 => ⟨S1x12x2048x1x64, .f32⟩
  | 118 => ⟨S_, .f32⟩
  | 119 => ⟨S1x12x2048x64, .f32⟩
  | 120 => ⟨S_, .f32⟩
  | 121 => ⟨S1x12x2048x64, .f32⟩
  | 122 => ⟨S1x12x2048x64, .f32⟩
  | 123 => ⟨S1x12x2048x1x64, .f32⟩
  | 124 => ⟨S1x12x2048x64, .f32⟩
  | 125 => ⟨S1x12x2048x1x64, .f32⟩
  | 126 => ⟨S_, .f32⟩
  | 127 => ⟨S1x12x2048x64, .f32⟩
  | _ => ⟨S1x12x2048x64, .f32⟩

abbrev hbmTy0_1 (i : Nat) : BufTy := match i % 128 with
  | 0 => ⟨S_, .f32⟩
  | 1 => ⟨S1x12x2048x64, .f32⟩
  | 2 => ⟨S1x12x2048x64, .f32⟩
  | 3 => ⟨S1x12x2048x1x64, .f32⟩
  | 4 => ⟨S1x12x2048x64, .f32⟩
  | 5 => ⟨S1x12x1024x2x64, .f32⟩
  | 6 => ⟨S_, .f32⟩
  | 7 => ⟨S1x12x1024x64, .f32⟩
  | 8 => ⟨S_, .f32⟩
  | 9 => ⟨S1x12x1024x64, .f32⟩
  | 10 => ⟨S1x12x1024x64, .f32⟩
  | 11 => ⟨S1x12x1024x2x64, .f32⟩
  | 12 => ⟨S1x12x2048x64, .f32⟩
  | 13 => ⟨S1x12x1024x2x64, .f32⟩
  | 14 => ⟨S_, .f32⟩
  | 15 => ⟨S1x12x1024x64, .f32⟩
  | 16 => ⟨S_, .f32⟩
  | 17 => ⟨S1x12x1024x64, .f32⟩
  | 18 => ⟨S1x12x1024x64, .f32⟩
  | 19 => ⟨S1x12x1024x2x64, .f32⟩
  | 20 => ⟨S1x12x2048x64, .f32⟩
  | 21 => ⟨S1x12x512x4x64, .f32⟩
  | 22 => ⟨S_, .f32⟩
  | 23 => ⟨S1x12x512x64, .f32⟩
  | 24 => ⟨S_, .f32⟩
  | 25 => ⟨S1x12x512x64, .f32⟩
  | 26 => ⟨S1x12x512x64, .f32⟩
  | 27 => ⟨S1x12x512x4x64, .f32⟩
  | 28 => ⟨S1x12x2048x64, .f32⟩
  | 29 => ⟨S1x12x512x4x64, .f32⟩
  | 30 => ⟨S_, .f32⟩
  | 31 => ⟨S1x12x512x64, .f32⟩
  | 32 => ⟨S_, .f32⟩
  | 33 => ⟨S1x12x512x64, .f32⟩
  | 34 => ⟨S1x12x512x64, .f32⟩
  | 35 => ⟨S1x12x512x4x64, .f32⟩
  | 36 => ⟨S1x12x2048x64, .f32⟩
  | 37 => ⟨S1x12x256x8x64, .f32⟩
  | 38 => ⟨S_, .f32⟩
  | 39 => ⟨S1x12x256x64, .f32⟩
  | 40 => ⟨S_, .f32⟩
  | 41 => ⟨S1x12x256x64, .f32⟩
  | 42 => ⟨S1x12x256x64, .f32⟩
  | 43 => ⟨S1x12x256x8x64, .f32⟩
  | 44 => ⟨S1x12x2048x64, .f32⟩
  | 45 => ⟨S1x12x256x8x64, .f32⟩
  | 46 => ⟨S_, .f32⟩
  | 47 => ⟨S1x12x256x64, .f32⟩
  | 48 => ⟨S_, .f32⟩
  | 49 => ⟨S1x12x256x64, .f32⟩
  | 50 => ⟨S1x12x256x64, .f32⟩
  | 51 => ⟨S1x12x256x8x64, .f32⟩
  | 52 => ⟨S1x12x2048x64, .f32⟩
  | 53 => ⟨S1x1x12x2048x64, .f32⟩
  | 54 => ⟨S1x1x12x2048x64, .f32⟩
  | 55 => ⟨S1x1x12x2048x64, .f32⟩
  | 56 => ⟨S1x1x12x2048x64, .f32⟩
  | 57 => ⟨S4x1x12x2048x64, .f32⟩
  | 58 => ⟨S1x1x12x2048x64, .f32⟩
  | 59 => ⟨S1x1x12x2048x64, .f32⟩
  | 60 => ⟨S1x1x12x2048x64, .f32⟩
  | 61 => ⟨S1x1x12x2048x64, .f32⟩
  | 62 => ⟨S4x1x12x2048x64, .f32⟩
  | 63 => ⟨S_, .i32⟩
  | 64 => ⟨S1x12x16x32, .i32⟩
  | 65 => ⟨S1x12x16x32, .i1⟩
  | 66 => ⟨S_, .i32⟩
  | 67 => ⟨S_, .i32⟩
  | 68 => ⟨S1x12x16x32, .i32⟩
  | 69 => ⟨S1x12x16x32, .i32⟩
  | 70 => ⟨S1x12x16x32, .i32⟩
  | 71 => ⟨S_, .i32⟩
  | 72 => ⟨S1x12x16x32, .i32⟩
  | 73 => ⟨S1x12x16x32, .i1⟩
  | 74 => ⟨S_, .i32⟩
  | 75 => ⟨S_, .i32⟩
  | 76 => ⟨S1x12x16x32, .i32⟩
  | 77 => ⟨S1x12x16x32, .i32⟩
  | 78 => ⟨S1x12x16x32, .i32⟩
  | 79 => ⟨S1x12x16x32, .i32⟩
  | 80 => ⟨S_, .i32⟩
  | 81 => ⟨S1x12x16x32, .i32⟩
  | 82 => ⟨S1x12x16x32, .i1⟩
  | 83 => ⟨S_, .i32⟩
  | 84 => ⟨S_, .i32⟩
  | 85 => ⟨S1x12x16x32, .i32⟩
  | 86 => ⟨S1x12x16x32, .i32⟩
  | 87 => ⟨S1x12x16x32, .i32⟩
  | 88 => ⟨S1x12x16x32, .i32⟩
  | 89 => ⟨S_, .i32⟩
  | 90 => ⟨S1x12x16x32, .i32⟩
  | 91 => ⟨S1x12x16x32, .i1⟩
  | 92 => ⟨S1x12x16x32x64, .i32⟩
  | 93 => ⟨S1x12x16x2048, .i32⟩
  | 94 => ⟨S1x12x16x32x64, .i1⟩
  | 95 => ⟨S1x12x16x2048, .i1⟩
  | 96 => ⟨S1x12x16x2048x1, .i32⟩
  | 97 => ⟨S1x1x1x1x4, .i32⟩
  | 98 => ⟨S1x12x16x2048x1, .i32⟩
  | 99 => ⟨S1x12x16x2048x4, .i32⟩
  | 100 => ⟨S1x12x16x2048x4, .i32⟩
  | 101 => ⟨S1x12x16x2048x4, .i1⟩
  | 102 => ⟨S1x12x16x2048x4, .f32⟩
  | 103 => ⟨S1x12x2048x16x64, .f32⟩
  | 104 => ⟨S1x12x16x2048x64, .f32⟩
  | 105 => ⟨S1x12x2048x16x64, .f32⟩
  | 106 => ⟨S1x12x16x2048x64, .f32⟩
  | 107 => ⟨S1x12x16x128x64, .f32⟩
  | 108 => ⟨S1x12x16x128x2048, .f32⟩
  | 109 => ⟨S_, .f32⟩
  | 110 => ⟨S1x12x16x128x2048, .f32⟩
  | 111 => ⟨S1x12x16x128x2048, .f32⟩
  | 112 => ⟨S1x12x16x1x2048, .i1⟩
  | 113 => ⟨S_, .f32⟩
  | 114 => ⟨S_, .f32⟩
  | 115 => ⟨S1x12x16x128x2048, .i1⟩
  | 116 => ⟨S1x12x16x128x2048, .f32⟩
  | 117 => ⟨S1x12x16x128x2048, .f32⟩
  | 118 => ⟨S_, .f32⟩
  | 119 => ⟨S1x12x16x128, .f32⟩
  | 120 => ⟨S_, .f32⟩
  | 121 => ⟨S1x12x16x128, .f32⟩
  | 122 => ⟨S1x12x16x128, .f32⟩
  | 123 => ⟨S1x12x16x128x1, .f32⟩
  | 124 => ⟨S1x12x16x128x2048, .f32⟩
  | 125 => ⟨S1x12x16x128x2048, .f32⟩
  | 126 => ⟨S1x12x16x128x2048, .f32⟩
  | 127 => ⟨S_, .f32⟩
  | _ => ⟨S1x12x2048x64, .f32⟩

abbrev hbmTy0_2 (i : Nat) : BufTy := match i % 128 with
  | 0 => ⟨S1x12x16x128, .f32⟩
  | 1 => ⟨S1x12x16x128x1, .f32⟩
  | 2 => ⟨S1x12x16x128x2048, .f32⟩
  | 3 => ⟨S1x12x16x128x2048, .f32⟩
  | 4 => ⟨S1x12x16x128x64, .f32⟩
  | 5 => ⟨S1x12x2048x64, .f32⟩
  | _ => ⟨S1x12x2048x64, .f32⟩

abbrev hbmTy (i : Nat) : BufTy := match i / 128 with
  | 0 => hbmTy0_0 i
  | 1 => hbmTy0_1 i
  | 2 => hbmTy0_2 i
  | _ => ⟨S1x12x2048x64, .f32⟩

abbrev bufTy : (tb : Table) → Fin (tcTables nBuf tb) → BufTy
  | .hbm, ⟨i, _⟩ => hbmTy i
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_cst : Ref sig .tc := ⟨.hbm, 60, rfl⟩
abbrev main_v11 : Ref sig .tc := ⟨.hbm, 61, rfl⟩
abbrev main_v12 : Ref sig .tc := ⟨.hbm, 62, rfl⟩
abbrev main_cst_1 : Ref sig .tc := ⟨.hbm, 63, rfl⟩
abbrev main_v13 : Ref sig .tc := ⟨.hbm, 64, rfl⟩
abbrev main_cst_2 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_cst_3 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_cst_4 : Ref sig .tc := ⟨.hbm, 78, rfl⟩
abbrev main_v25 : Ref sig .tc := ⟨.hbm, 79, rfl⟩
abbrev main_cst_5 : Ref sig .tc := ⟨.hbm, 80, rfl⟩
abbrev main_v26 : Ref sig .tc := ⟨.hbm, 81, rfl⟩
abbrev main_cst_6 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_call2_v0 : Ref sig .tc := ⟨.hbm, 86, rfl⟩
abbrev main_call2_v1_0 : Ref sig .tc := ⟨.hbm, 87, rfl⟩
abbrev main_v30 : Ref sig .tc := ⟨.hbm, 88, rfl⟩
abbrev main_call3_v0 : Ref sig .tc := ⟨.hbm, 89, rfl⟩
abbrev main_call3_v1_0 : Ref sig .tc := ⟨.hbm, 90, rfl⟩
abbrev main_v31 : Ref sig .tc := ⟨.hbm, 91, rfl⟩
abbrev main_v32 : Ref sig .tc := ⟨.hbm, 92, rfl⟩
abbrev main_cst_7 : Ref sig .tc := ⟨.hbm, 93, rfl⟩
abbrev main_v33 : Ref sig .tc := ⟨.hbm, 94, rfl⟩
abbrev main_v34 : Ref sig .tc := ⟨.hbm, 95, rfl⟩
abbrev main_cst_8 : Ref sig .tc := ⟨.hbm, 96, rfl⟩
abbrev main_v35 : Ref sig .tc := ⟨.hbm, 97, rfl⟩
abbrev main_v36 : Ref sig .tc := ⟨.hbm, 98, rfl⟩
abbrev main_cst_9 : Ref sig .tc := ⟨.hbm, 99, rfl⟩
abbrev main_v37 : Ref sig .tc := ⟨.hbm, 100, rfl⟩
abbrev main_v38 : Ref sig .tc := ⟨.hbm, 101, rfl⟩
abbrev main_cst_10 : Ref sig .tc := ⟨.hbm, 102, rfl⟩
abbrev main_v39 : Ref sig .tc := ⟨.hbm, 103, rfl⟩
abbrev main_v40 : Ref sig .tc := ⟨.hbm, 104, rfl⟩
abbrev main_c_11 : Ref sig .tc := ⟨.hbm, 105, rfl⟩
abbrev main_c_12 : Ref sig .tc := ⟨.hbm, 106, rfl⟩
abbrev main_call4_v0 : Ref sig .tc := ⟨.hbm, 107, rfl⟩
abbrev main_call4_v1 : Ref sig .tc := ⟨.hbm, 108, rfl⟩
abbrev main_v41 : Ref sig .tc := ⟨.hbm, 109, rfl⟩
abbrev main_c_13 : Ref sig .tc := ⟨.hbm, 110, rfl⟩
abbrev main_call5_v0 : Ref sig .tc := ⟨.hbm, 111, rfl⟩
abbrev main_v42 : Ref sig .tc := ⟨.hbm, 112, rfl⟩
abbrev main_c_14 : Ref sig .tc := ⟨.hbm, 113, rfl⟩
abbrev main_call6_v0 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_cst_15 : Ref sig .tc := ⟨.hbm, 118, rfl⟩
abbrev main_v46 : Ref sig .tc := ⟨.hbm, 119, rfl⟩
abbrev main_cst_16 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_cst_17 : Ref sig .tc := ⟨.hbm, 126, rfl⟩
abbrev main_v52 : Ref sig .tc := ⟨.hbm, 127, rfl⟩
abbrev main_cst_18 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_cst_19 : Ref sig .tc := ⟨.hbm, 134, rfl⟩
abbrev main_v58 : Ref sig .tc := ⟨.hbm, 135, rfl⟩
abbrev main_cst_20 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_cst_21 : Ref sig .tc := ⟨.hbm, 142, rfl⟩
abbrev main_v64 : Ref sig .tc := ⟨.hbm, 143, rfl⟩
abbrev main_cst_22 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_cst_23 : Ref sig .tc := ⟨.hbm, 150, rfl⟩
abbrev main_v70 : Ref sig .tc := ⟨.hbm, 151, rfl⟩
abbrev main_cst_24 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_cst_25 : Ref sig .tc := ⟨.hbm, 158, rfl⟩
abbrev main_v76 : Ref sig .tc := ⟨.hbm, 159, rfl⟩
abbrev main_cst_26 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_cst_27 : Ref sig .tc := ⟨.hbm, 166, rfl⟩
abbrev main_v82 : Ref sig .tc := ⟨.hbm, 167, rfl⟩
abbrev main_cst_28 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_cst_29 : Ref sig .tc := ⟨.hbm, 174, rfl⟩
abbrev main_v88 : Ref sig .tc := ⟨.hbm, 175, rfl⟩
abbrev main_cst_30 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_c_31 : Ref sig .tc := ⟨.hbm, 191, rfl⟩
abbrev main_v103 : Ref sig .tc := ⟨.hbm, 192, rfl⟩
abbrev main_v104 : Ref sig .tc := ⟨.hbm, 193, rfl⟩
abbrev main_c_32 : Ref sig .tc := ⟨.hbm, 194, rfl⟩
abbrev main_c_33 : Ref sig .tc := ⟨.hbm, 195, rfl⟩
abbrev main_call7_v0 : Ref sig .tc := ⟨.hbm, 196, rfl⟩
abbrev main_call7_v1 : Ref sig .tc := ⟨.hbm, 197, rfl⟩
abbrev main_v105 : Ref sig .tc := ⟨.hbm, 198, rfl⟩
abbrev main_c_34 : Ref sig .tc := ⟨.hbm, 199, rfl⟩
abbrev main_v106 : Ref sig .tc := ⟨.hbm, 200, rfl⟩
abbrev main_v107 : Ref sig .tc := ⟨.hbm, 201, rfl⟩
abbrev main_c_35 : Ref sig .tc := ⟨.hbm, 202, rfl⟩
abbrev main_c_36 : Ref sig .tc := ⟨.hbm, 203, rfl⟩
abbrev main_call8_v0 : Ref sig .tc := ⟨.hbm, 204, rfl⟩
abbrev main_call8_v1 : Ref sig .tc := ⟨.hbm, 205, rfl⟩
abbrev main_v108 : Ref sig .tc := ⟨.hbm, 206, rfl⟩
abbrev main_v109 : Ref sig .tc := ⟨.hbm, 207, rfl⟩
abbrev main_c_37 : Ref sig .tc := ⟨.hbm, 208, rfl⟩
abbrev main_v110 : Ref sig .tc := ⟨.hbm, 209, rfl⟩
abbrev main_v111 : Ref sig .tc := ⟨.hbm, 210, rfl⟩
abbrev main_c_38 : Ref sig .tc := ⟨.hbm, 211, rfl⟩
abbrev main_c_39 : Ref sig .tc := ⟨.hbm, 212, rfl⟩
abbrev main_call9_v0 : Ref sig .tc := ⟨.hbm, 213, rfl⟩
abbrev main_call9_v1 : Ref sig .tc := ⟨.hbm, 214, rfl⟩
abbrev main_v112 : Ref sig .tc := ⟨.hbm, 215, rfl⟩
abbrev main_v113 : Ref sig .tc := ⟨.hbm, 216, rfl⟩
abbrev main_c_40 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_call10_v0 : Ref sig .tc := ⟨.hbm, 224, rfl⟩
abbrev main_call10_v1 : Ref sig .tc := ⟨.hbm, 225, rfl⟩
abbrev main_call10_v2 : Ref sig .tc := ⟨.hbm, 226, rfl⟩
abbrev main_call10_v3 : Ref sig .tc := ⟨.hbm, 227, rfl⟩
abbrev main_call10_v4 : Ref sig .tc := ⟨.hbm, 228, rfl⟩
abbrev main_call10_v5 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_cst_41 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_cst_42 : Ref sig .tc := ⟨.hbm, 241, rfl⟩
abbrev main_call11_v0 : Ref sig .tc := ⟨.hbm, 242, rfl⟩
abbrev main_call11_v1 : Ref sig .tc := ⟨.hbm, 243, rfl⟩
abbrev main_call11_v2 : Ref sig .tc := ⟨.hbm, 244, rfl⟩
abbrev main_v130 : Ref sig .tc := ⟨.hbm, 245, rfl⟩
abbrev main_cst_43 : Ref sig .tc := ⟨.hbm, 246, rfl⟩
abbrev main_v131 : Ref sig .tc := ⟨.hbm, 247, rfl⟩
abbrev main_cst_44 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩
abbrev main_cst_45 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.LaneScatter.Fold
public import Idealize.ShloMosaic.Lib.Pipeline.ReadBack
public import Idealize.ShloMosaic.Lib.Pipeline.ValueKit

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The pooled arrays -/

/-- The pooling matrix of the kernel: row `r < 32` averages the two rows `2 r`, `2 r + 1` of a block of 64
    rows, row `32 + r` the eight rows from `8 r` on. -/
def pmat : FVec F S40x64 .f32 :=
  k0_pay6 (iota .tc S40x64 32 [0] iota_S40x64_d0_w32) (iota .tc S40x64 32 [1] iota_S40x64_d1_w32) k0_pay2 k0_pay3 8#32 k0_pay4 k0_pay5
    (Scalar.extui (Scalar.cmpi .sgt 8#32 0#32)) (Scalar.extui (Scalar.cmpi .slt 8#32 0#32))

/-- Rows `o, o + 1, …, o + 63` of one head's keys or values (rows past the end read the last one). -/
def rows (x : Vec F S1x1x2048x64 .f32) (o : ℕ) : Vec F S1x1x64x64 .f32 := fun z =>
  x (ix4 0 0 ⟨min (o + (z 2).val) 2047, by omega⟩ (z 3))

/-- The pooled rows of the block that starts at row `o`. -/
def pool (x : Vec F S1x1x2048x64 .f32) (o : ℕ) : FVec F S40x64 .f32 := k0_pay13 pmat (rows x o)

/-- Pooled by two: row `r` is row `r % 32` of its block's pooled rows. -/
def pool2 (x : Vec F S1x1x2048x64 .f32) : Vec F S1024x64 .f32 := fun y =>
  pool x (64 * ((y 0).val / 32)) (ix2 ⟨(y 0).val % 32, by omega⟩ (y 1))

/-- Pooled by eight: row `r` is row `32 + r % 8` of its block's pooled rows. -/
def pool8 (x : Vec F S1x1x2048x64 .f32) : Vec F S256x64 .f32 := fun y =>
  pool x (64 * ((y 0).val / 8)) (ix2 ⟨32 + (y 0).val % 8, by omega⟩ (y 1))

theorem rows_read {sg : RefSig} {κ : Kind} {sp : Space} (v : View sg κ sp S1x1x2048x64 .f32) (f : v.ty.Contents (Elt F)) (x : Vec F S1x1x2048x64 .f32)
    (hf : v.read (Elt F) f = x) (o : ℕ) (inb : ∀ a, (![0, 0, o, 0] : Fin 4 → ℕ) a + S1x1x64x64.size a ≤ S1x1x2048x64.size a) :
    v.readAt (Elt F) (Rect.unit (s := S1x1x2048x64) ![0, 0, o, 0] S1x1x64x64.size inb).toLoadRect f = rows x o := by
  subst hf
  funext z
  rw [View.readAt_eq_ld]
  show v.read (Elt F) f _ = v.read (Elt F) f _
  have h2 := inb 2
  have h0 : (z 0).val < 1 := (z 0).isLt
  have h1 : (z 1).val < 1 := (z 1).isLt
  have hz : (z 2).val < 64 := (z 2).isLt
  simp only [Matrix.cons_val] at h2
  congr 1
  funext a
  apply Fin.ext
  rw [Rect.idx_unit_val]
  fin_cases a <;> simp <;> omega

theorem piece2 {sg : RefSig} {κ : Kind} {sp : Space} (v : View sg κ sp S1x1x2048x64 .f32) (f : v.ty.Contents (Elt F)) (x : Vec F S1x1x2048x64 .f32)
    (hf : v.read (Elt F) f = x) {o r : ℕ} (ho : o = 64 * (r / 32)) (hr : r % 32 = 0)
    (inb : ∀ a, (![0, 0, o, 0] : Fin 4 → ℕ) a + S1x1x64x64.size a ≤ S1x1x2048x64.size a)
    (inb' : ∀ a, (![r, 0] : Fin 2 → ℕ) a + S32x64.size a ≤ S1024x64.size a) (z : S32x64.Idx) :
    k0_pay15 pmat (v.readAt (Elt F) (Rect.unit (s := S1x1x2048x64) ![0, 0, o, 0] S1x1x64x64.size inb).toLoadRect f) z
      = pool2 x ((Rect.unit (s := S1024x64) ![r, 0] S32x64.size inb').emb z) := by
  rw [rows_read v f x hf o inb]
  unfold k0_pay15
  dsimp only
  rw [shapeCast_self]
  have h0 : (z 0).val < 32 := (z 0).isLt
  have hq : ((Rect.unit (s := S1024x64) ![r, 0] S32x64.size inb').emb z 0).val = r + (z 0).val := Rect.idx_unit_val _ _ _ _ _
  have hc : ((Rect.unit (s := S1024x64) ![r, 0] S32x64.size inb').emb z 1).val = 0 + (z 1).val := Rect.idx_unit_val _ _ _ _ _
  unfold pool2
  rw [show 64 * (((Rect.unit (s := S1024x64) ![r, 0] S32x64.size inb').emb z 0).val / 32) = o by rw [hq]; omega]
  refine extractStridedSlice_apply _ _ _ _ _ fun a => ?_
  fin_cases a
  · show ((Rect.unit (s := S1024x64) ![r, 0] S32x64.size inb').emb z 0).val % 32 = 0 + (z 0).val
    rw [hq]; omega
  · exact hc

/-- The same of whatever store is, by definition, of that shape. -/
theorem stored2 {sg : RefSig} {κ : Kind} {sp : Space} (v : View sg κ sp S1x1x2048x64 .f32) (f : v.ty.Contents (Elt F)) (x : Vec F S1x1x2048x64 .f32)
    (hf : v.read (Elt F) f = x) {r : ℕ} (w : Vec F S32x64 .f32) (hr : r % 32 = 0)
    (inb : ∀ a, (![0, 0, 64 * (r / 32), 0] : Fin 4 → ℕ) a + S1x1x64x64.size a ≤ S1x1x2048x64.size a)
    (hw : w = k0_pay15 pmat (v.readAt (Elt F) (Rect.unit (s := S1x1x2048x64) ![0, 0, 64 * (r / 32), 0] S1x1x64x64.size inb).toLoadRect f))
    (inb' : ∀ a, (![r, 0] : Fin 2 → ℕ) a + S32x64.size a ≤ S1024x64.size a) (z : S32x64.Idx) :
    w z = pool2 x ((Rect.unit (s := S1024x64) ![r, 0] S32x64.size inb').emb z) := by
  subst hw
  exact piece2 v f x hf rfl hr inb inb' z

theorem piece8 {sg : RefSig} {κ : Kind} {sp : Space} (v : View sg κ sp S1x1x2048x64 .f32) (f : v.ty.Contents (Elt F)) (x : Vec F S1x1x2048x64 .f32)
    (hf : v.read (Elt F) f = x) {o r : ℕ} (ho : o = 64 * (r / 8)) (hr : r % 8 = 0)
    (inb : ∀ a, (![0, 0, o, 0] : Fin 4 → ℕ) a + S1x1x64x64.size a ≤ S1x1x2048x64.size a)
    (inb' : ∀ a, (![r, 0] : Fin 2 → ℕ) a + S8x64.size a ≤ S256x64.size a) (z : S8x64.Idx) :
    k0_pay16 pmat (v.readAt (Elt F) (Rect.unit (s := S1x1x2048x64) ![0, 0, o, 0] S1x1x64x64.size inb).toLoadRect f) z
      = pool8 x ((Rect.unit (s := S256x64) ![r, 0] S8x64.size inb').emb z) := by
  rw [rows_read v f x hf o inb]
  unfold k0_pay16
  dsimp only
  rw [shapeCast_self]
  have h0 : (z 0).val < 8 := (z 0).isLt
  have hq : ((Rect.unit (s := S256x64) ![r, 0] S8x64.size inb').emb z 0).val = r + (z 0).val := Rect.idx_unit_val _ _ _ _ _
  have hc : ((Rect.unit (s := S256x64) ![r, 0] S8x64.size inb').emb z 1).val = 0 + (z 1).val := Rect.idx_unit_val _ _ _ _ _
  unfold pool8
  rw [show 64 * (((Rect.unit (s := S256x64) ![r, 0] S8x64.size inb').emb z 0).val / 8) = o by rw [hq]; omega]
  refine extractStridedSlice_apply _ _ _ _ _ fun a => ?_
  fin_cases a
  · show 32 + ((Rect.unit (s := S256x64) ![r, 0] S8x64.size inb').emb z 0).val % 8 = 32 + (z 0).val
    rw [hq]; omega
  · exact hc

/-- The same of whatever store is, by definition, of that shape. -/
theorem stored8 {sg : RefSig} {κ : Kind} {sp : Space} (v : View sg κ sp S1x1x2048x64 .f32) (f : v.ty.Contents (Elt F)) (x : Vec F S1x1x2048x64 .f32)
    (hf : v.read (Elt F) f = x) {r : ℕ} (w : Vec F S8x64 .f32) (hr : r % 8 = 0)
    (inb : ∀ a, (![0, 0, 64 * (r / 8), 0] : Fin 4 → ℕ) a + S1x1x64x64.size a ≤ S1x1x2048x64.size a)
    (hw : w = k0_pay16 pmat (v.readAt (Elt F) (Rect.unit (s := S1x1x2048x64) ![0, 0, 64 * (r / 8), 0] S1x1x64x64.size inb).toLoadRect f))
    (inb' : ∀ a, (![r, 0] : Fin 2 → ℕ) a + S8x64.size a ≤ S256x64.size a) (z : S8x64.Idx) :
    w z = pool8 x ((Rect.unit (s := S256x64) ![r, 0] S8x64.size inb').emb z) := by
  subst hw
  exact piece8 v f x hf rfl hr inb inb' z

/-- Stores that cover a buffer and are all blocks of `G` leave it reading `G`. -/
theorem read_of_pieces {sg : RefSig} {κ : Kind} {sp : Space} {s : Shape} (v : View sg κ sp s .f32) (f : v.ty.Contents (Elt F)) (G : Vec F s .f32)
    (L : List (View.Piece (Elt F) s .f32)) (hG : View.PiecesOf G L) (hc : ∀ y, ∃ p ∈ L, y ∈ p.1.set) :
    v.read (Elt F) (v.writes (Elt F) f L) = G := by
  rw [View.read_writes_eq_canon v f L hc]
  funext y
  have := View.canon_append_of_piecesOf G [] L hG y (hc y)
  rwa [List.append_nil] at this

/-! ## The pass that pools a head -/

variable (c : Dev nD) (i : grid0.Coords) (arg2 : Memref sig .tc .smem S12x16x32 .i32) (harg2 : arg2.IsWhole) (arg3 : Memref sig .tc .vmem S1x1x128x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x128x64 .f32) (harg6 : arg6.IsWhole) (arg7 : Memref sig .tc .vmem S1024x64 .f32) (harg7 : arg7.IsWhole) (arg8 : Memref sig .tc .vmem S256x64 .f32) (harg8 : arg8.IsWhole) (arg9 : Memref sig .tc .vmem S1024x64 .f32) (harg9 : arg9.IsWhole) (arg10 : Memref sig .tc .vmem S256x64 .f32) (harg10 : arg10.IsWhole) (arg11 : Memref sig .tc .vmem S384x64 .f32) (harg11 : arg11.IsWhole) (arg12 : Memref sig .tc .vmem S384x64 .f32) (harg12 : arg12.IsWhole)

/-- What the kernel does at the first block of rows of a head, before it gathers. -/
def buildProg : Prog (TpuEff nD τ sig (Elt F) Λ₀ .tc) PUnit := do
  let ⟨v986, v994⟩ : Σ' (v986 : FVec F S40x64 .f32), FVec F S8x64 .f32 ← k0_part25 i arg2 harg2 arg3 harg3 arg4 harg4 arg5 harg5 arg6 harg6 arg7 harg7 arg8 harg8 arg9 harg9 arg10 harg10 arg11 harg11 arg12 harg12
  Prog.lift (.store arg8 (Rect.unit (s := S256x64) ![248, 0] S8x64.size inb_S256x64_S8x64_248_0) v994 Finset.univ (View.stores_vmem_bits_univ h_S8x64 rfl) (.inl rfl))
  let _v996 : Vec F S32x64 .f32 ← Prog.lift (.load arg9 (Rect.unit (s := S1024x64) ![992, 0] S32x64.size inb_S1024x64_S32x64_992_0).toLoadRect (View.loadsAt_vmem h_S32x64))
  Prog.lift (.store arg9 (Rect.unit (s := S1024x64) ![992, 0] S32x64.size inb_S1024x64_S32x64_992_0) (k0_pay207 v986) Finset.univ (View.stores_vmem_bits_univ h_S32x64 rfl) (.inl rfl))
  let _v1000 : Vec F S8x64 .f32 ← Prog.lift (.load arg10 (Rect.unit (s := S256x64) ![248, 0] S8x64.size inb_S256x64_S8x64_248_0).toLoadRect (View.loadsAt_vmem h_S8x64))
  Prog.lift (.store arg10 (Rect.unit (s := S256x64) ![248, 0] S8x64.size inb_S256x64_S8x64_248_0) (k0_pay208 v986) Finset.univ (View.stores_vmem_bits_univ h_S8x64 rfl) (.inl rfl))
  pure ⟨⟩

set_option maxHeartbeats 1000000 in
theorem build (x2 x3 : Vec F S1x1x2048x64 .f32) (E : Set ℕ) :
    (iprop(owns (c : Thread nD τ) arg4 fullShare x2 ∗ owns (c : Thread nD τ) arg5 fullShare x3
      ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d)) : sProp 𝕄)
    ⊢ wp frame (wpE (defs₀ (F := F)) Variants.none c none) E
      (buildProg (F := F) i arg2 harg2 arg3 harg3 arg4 harg4 arg5 harg5 arg6 harg6 arg7 harg7 arg8 harg8 arg9 harg9 arg10 harg10 arg11 harg11 arg12 harg12)
      (fun _ => iprop(owns (c : Thread nD τ) arg4 fullShare x2 ∗ owns (c : Thread nD τ) arg5 fullShare x3
        ∗ owns (c : Thread nD τ) arg7 fullShare (pool2 x2) ∗ owns (c : Thread nD τ) arg8 fullShare (pool8 x2)
        ∗ owns (c : Thread nD τ) arg9 fullShare (pool2 x3) ∗ owns (c : Thread nD τ) arg10 fullShare (pool8 x3))) := by
  unfold buildProg
  simp only [k0_part25_eq_skeleton]; unfold k0_part25_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩⟩
  obtain rfl := harg4.eq_unread hf2; obtain rfl := harg5.eq_unread hf3
  sl_exec
  sl_step
  isplitl [H2]
  · iexists _; isplitr; ipureintro; exact harg4.read_unread _
    iexact H2
  isplitl [H3]
  · iexists _; isplitr; ipureintro; exact harg5.read_unread _
    iexact H3
  isplitl [HS0]
  · iexists _; isplitr; swap
    · iexact HS0
    ipureintro
    refine read_of_pieces _ _ (pool2 x2) _ ?_ (View.cover_of_tiledL _ S32x64.size (by sl_kernel_rfl))
    repeat' first | exact trivial | refine ⟨stored2 arg4.view (harg4.unread x2) x2 (harg4.read_unread x2) _ rfl (by decide) (by sl_kernel_rfl) (by decide), ?_⟩
  isplitl [HS1]
  · iexists _; isplitr; swap
    · iexact HS1
    ipureintro
    refine read_of_pieces _ _ (pool8 x2) _ ?_ (View.cover_of_tiledL _ S8x64.size (by sl_kernel_rfl))
    repeat' first | exact trivial | refine ⟨stored8 arg4.view (harg4.unread x2) x2 (harg4.read_unread x2) _ rfl (by decide) (by sl_kernel_rfl) (by decide), ?_⟩
  isplitl [HS2]
  · iexists _; isplitr; swap
    · iexact HS2
    ipureintro
    refine read_of_pieces _ _ (pool2 x3) _ ?_ (View.cover_of_tiledL _ S32x64.size (by sl_kernel_rfl))
    repeat' first | exact trivial | refine ⟨stored2 arg5.view (harg5.unread x3) x3 (harg5.read_unread x3) _ rfl (by decide) (by sl_kernel_rfl) (by decide), ?_⟩
  iexists _; isplitr; swap
  · iexact HS3
  ipureintro
  refine read_of_pieces _ _ (pool8 x3) _ ?_ (View.cover_of_tiledL _ S8x64.size (by sl_kernel_rfl))
  repeat' first | exact trivial | refine ⟨stored8 arg5.view (harg5.unread x3) x3 (harg5.read_unread x3) _ rfl (by decide) (by sl_kernel_rfl) (by decide), ?_⟩

end Cert.KernelIdeal.Attn
end
-- ==== Proof.Run.lean ====
module

public import proofs.«01_k».proof.Proof.Body
public import proofs.«01_k».proof.Proof.Gen.KernelIdeal.Skeleton
public import Idealize.ShloMosaic.Lib.LaneScatter.Fold
public import Idealize.ShloMosaic.Lib.Pipeline.ReadBack
public import Idealize.ShloMosaic.Lib.Pipeline.ValueKit
public import Idealize.ShloMosaic.Lib.VecWindow

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The block order's words address inside the arrays -/

theorem muli_toNat (w : BitVec 32) (h : w.toNat < 32) (k : ℕ) (hk : k ≤ 64) : (Scalar.muli w (BitVec.ofNat 32 k)).toNat = w.toNat * k := by
  have : w.toNat * k ≤ 31 * 64 := Nat.mul_le_mul (by omega) hk
  simp only [Scalar.muli, IntOp.muli, BitVec.toNat_mul, BitVec.toNat_ofNat]
  rw [Nat.mod_eq_of_lt (show k < 2 ^ 32 by omega), Nat.mod_eq_of_lt (by omega)]

theorem chk1 (w : BitVec 32) (h : w.toNat < 32) : k0_chk1 w := by
  have e := muli_toNat w h 64 (by omega)
  unfold k0_chk1 k0_off2
  intro a
  fin_cases a <;> simp [Scalar.indexCast, e]; omega

theorem chk5 (w : BitVec 32) (h : w.toNat < 32) : k0_chk5 w := by
  have e := muli_toNat w h 32 (by omega)
  unfold k0_chk5 k0_off10
  intro a
  fin_cases a <;> simp [Scalar.indexCast, e]; omega

theorem chk6 (w : BitVec 32) (h : w.toNat < 32) : k0_chk6 w := by
  have e := muli_toNat w h 8 (by omega)
  unfold k0_chk6 k0_off12
  intro a
  fin_cases a <;> simp [Scalar.indexCast, e]; omega

theorem chk2 (w : BitVec 32) (h : w.toNat < 32) : k0_chk2 w := chk1 w h
theorem chk3 (w : BitVec 32) (h : w.toNat < 32) : k0_chk3 w := chk1 w h
theorem chk4 (w : BitVec 32) (h : w.toNat < 32) : k0_chk4 w := chk1 w h
theorem chk7 (w : BitVec 32) (h : w.toNat < 32) : k0_chk7 w := chk6 w h
theorem chk8 (w : BitVec 32) (h : w.toNat < 32) : k0_chk8 w := chk6 w h
theorem chk9 (w : BitVec 32) (h : w.toNat < 32) : k0_chk9 w := chk6 w h
theorem chk10 (w : BitVec 32) (h : w.toNat < 32) : k0_chk10 w := chk6 w h
theorem chk11 (w : BitVec 32) (h : w.toNat < 32) : k0_chk11 w := chk6 w h
theorem chk12 (w : BitVec 32) (h : w.toNat < 32) : k0_chk12 w := chk6 w h

/-- The `j`-th block number of the block order `x0` at the grid point `i`. -/
def wordAt (i : grid0.Coords) (x0 : S12x16x32.Idx → BitVec 32) (j : Fin 32) : BitVec 32 := x0 (ix3 (i 0) (i 1) j)

/-- The 384 gathered rows, for twelve block numbers `ws`: four whole blocks, one block pooled by two, seven
    pooled by eight, and forty rows of zero. -/
def gath (ws : Fin 32 → BitVec 32) (x : Vec F S1x1x2048x64 .f32) : Vec F S384x64 .f32 := fun y =>
  if (y 0).val < 256 then
    rows x ((ws ⟨((y 0).val / 64) % 32, by omega⟩).toNat * 64) (ix4 0 0 ⟨(y 0).val % 64, by omega⟩ (y 1))
  else if (y 0).val < 288 then
    pool x (64 * (ws 4).toNat) (ix2 ⟨(y 0).val % 32, by omega⟩ (y 1))
  else if (y 0).val < 344 then
    pool x (64 * (ws ⟨(5 + ((y 0).val - 288) / 8) % 32, by omega⟩).toNat) (ix2 ⟨32 + (y 0).val % 8, by omega⟩ (y 1))
  else Scalar.ofBits .f32 0x00000000#32

section
variable {sg : RefSig} {κ : Kind} {sp : Space}

/-- The block of results at the twelve block numbers `ws`, for the queries `x1`, keys `x2` and values `x3`. -/
def outBlock (ws : Fin 32 → BitVec 32) (x1 : Vec F S1x1x128x64 .f32) (x2 x3 : Vec F S1x1x2048x64 .f32) : FVec F S1x1x128x64 .f32 :=
  k0_pay1 (gath ws x3) (k0_pay237 x1 (gath ws x2))

/-- The offsets of the load of the `j`-th block number. -/
def offW (i : grid0.Coords) (j : ℕ) : Fin 3 → ℕ :=
  ![(BitVec.ofNat 32 (i 0).val).toNat, (BitVec.ofNat 32 (i 1).val).toNat, j]

theorem offW_inb (i : grid0.Coords) (j : ℕ) (hj : j < 32) (a : Fin 3) : offW i j a + S1x1x1.size a ≤ S12x16x32.size a := by
  have h0 : (i 0).val < 12 := (i 0).isLt
  have h1 : (i 1).val < 16 := (i 1).isLt
  unfold offW
  fin_cases a <;> simp <;> omega

theorem word_eq (i : grid0.Coords) (v : View sg κ sp S12x16x32 .i32) (f : v.ty.Contents (Elt F)) (x0 : S12x16x32.Idx → BitVec 32)
    (hf : v.read (Elt F) f = x0) (j : ℕ) (hj : j < 32) (inb : ∀ a, offW i j a + S1x1x1.size a ≤ S12x16x32.size a) (z : S1x1x1.Idx) :
    (v.readAt (Elt F) (Rect.unit (s := S12x16x32) (offW i j) S1x1x1.size inb).toLoadRect f z : BitVec 32) = wordAt i x0 ⟨j, hj⟩ := by
  subst hf
  rw [View.readAt_eq_ld]
  show v.read (Elt F) f _ = v.read (Elt F) f _
  have e0 : (z 0).val < 1 := (z 0).isLt
  have e1 : (z 1).val < 1 := (z 1).isLt
  have e2 : (z 2).val < 1 := (z 2).isLt
  have h0 : (i 0).val < 12 := (i 0).isLt
  have h1 : (i 1).val < 16 := (i 1).isLt
  congr 1
  funext a
  apply Fin.ext
  rw [Rect.idx_unit_val]
  unfold offW
  fin_cases a <;> simp <;> omega

/-- A whole block in its place. -/
theorem storedRow (v : View sg κ sp S1x1x2048x64 .f32) (f : v.ty.Contents (Elt F)) (x : Vec F S1x1x2048x64 .f32)
    (hf : v.read (Elt F) f = x) (ws : Fin 32 → BitVec 32) (hws : ∀ j, (ws j).toNat < 32) {r : ℕ} (hr : r % 64 = 0 ∧ r < 256)
    (u : BitVec 32) (hu : u = ws ⟨(r / 64) % 32, by omega⟩) (hlt : u.toNat < 32) (w : Vec F S64x64 .f32)
    (hw : w = k0_pay210 (v.readAt (Elt F) (Rect.unit (s := S1x1x2048x64) (k0_off2 u) S1x1x64x64.size (chk1 u hlt)).toLoadRect f))
    (inb' : ∀ a, (![r, 0] : Fin 2 → ℕ) a + S64x64.size a ≤ S384x64.size a) (z : S64x64.Idx) :
    w z = gath ws x ((Rect.unit (s := S384x64) ![r, 0] S64x64.size inb').emb z) := by
  subst hw

  have e := muli_toNat u hlt 64 (by omega)
  have hoff : k0_off2 u = ![0, 0, u.toNat * 64, 0] := by unfold k0_off2; simp [Scalar.indexCast, e]
  have h0 : (z 0).val < 64 := (z 0).isLt
  have hq : ((Rect.unit (s := S384x64) ![r, 0] S64x64.size inb').emb z 0).val = r + (z 0).val := Rect.idx_unit_val _ _ _ _ _
  have hc : ((Rect.unit (s := S384x64) ![r, 0] S64x64.size inb').emb z 1).val = 0 + (z 1).val := Rect.idx_unit_val _ _ _ _ _
  have key : ∀ (off : Fin 4 → ℕ) (ho : off = ![0, 0, u.toNat * 64, 0]) (inb : ∀ a, off a + S1x1x64x64.size a ≤ S1x1x2048x64.size a),
      v.readAt (Elt F) (Rect.unit (s := S1x1x2048x64) off S1x1x64x64.size inb).toLoadRect f = rows x (u.toNat * 64) := by
    intro off ho inb; subst ho; exact rows_read v f x hf _ inb
  refine (congrFun (congrArg k0_pay210 (key _ hoff (chk1 u hlt))) z).trans ?_
  unfold k0_pay210
  dsimp only
  rw [shapeCast_self]
  unfold gath
  rw [if_pos (by rw [hq]; omega)]
  have hj : (⟨(((Rect.unit (s := S384x64) ![r, 0] S64x64.size inb').emb z 0).val / 64) % 32, by omega⟩ : Fin 32) = ⟨(r / 64) % 32, by omega⟩ :=
    Fin.ext (by show (((Rect.unit (s := S384x64) ![r, 0] S64x64.size inb').emb z 0).val / 64) % 32 = (r / 64) % 32; rw [hq]; omega)
  rw [hj, ← hu]
  refine shapeCast_apply _ _ _ _ ?_
  rw [Shape.rowMajor_val_four, Shape.rowMajor_val_two]
  show ((0 * 1 + 0) * 64 + ((Rect.unit (s := S384x64) ![r, 0] S64x64.size inb').emb z 0).val % 64) * 64 + ((Rect.unit (s := S384x64) ![r, 0] S64x64.size inb').emb z 1).val = (z 0).val * 64 + (z 1).val
  rw [hq, hc]
  omega

/-- A block pooled by two in its place. -/
theorem storedTwo (v : View sg κ sp S1024x64 .f32) (f : v.ty.Contents (Elt F)) (x : Vec F S1x1x2048x64 .f32)
    (hf : v.read (Elt F) f = pool2 x) (ws : Fin 32 → BitVec 32) {r : ℕ} (hr : r = 256)
    (u : BitVec 32) (hu : u = ws 4) (hlt : u.toNat < 32) (w : Vec F S32x64 .f32)
    (hw : w = k0_pay218 (v.readAt (Elt F) (Rect.unit (s := S1024x64) (k0_off10 u) S32x64.size (chk5 u hlt)).toLoadRect f))
    (inb' : ∀ a, (![r, 0] : Fin 2 → ℕ) a + S32x64.size a ≤ S384x64.size a) (z : S32x64.Idx) :
    w z = gath ws x ((Rect.unit (s := S384x64) ![r, 0] S32x64.size inb').emb z) := by
  subst hw
  have e := muli_toNat u hlt 32 (by omega)
  have hoff : k0_off10 u = ![u.toNat * 32, 0] := by unfold k0_off10; simp [Scalar.indexCast, e]
  have h0 : (z 0).val < 32 := (z 0).isLt
  have hq : ((Rect.unit (s := S384x64) ![r, 0] S32x64.size inb').emb z 0).val = r + (z 0).val := Rect.idx_unit_val _ _ _ _ _
  have hc : ((Rect.unit (s := S384x64) ![r, 0] S32x64.size inb').emb z 1).val = 0 + (z 1).val := Rect.idx_unit_val _ _ _ _ _
  unfold k0_pay218
  dsimp only
  rw [shapeCast_self, View.readAt_eq_ld, hf]
  have hq' : ((Rect.unit (s := S1024x64) (k0_off10 u) S32x64.size (chk5 u hlt)).emb z 0).val = u.toNat * 32 + (z 0).val := (Rect.idx_unit_val _ _ _ _ _).trans (congrArg (· + (z 0).val) (congrFun hoff 0))
  have hc' : ((Rect.unit (s := S1024x64) (k0_off10 u) S32x64.size (chk5 u hlt)).emb z 1).val = 0 + (z 1).val := (Rect.idx_unit_val _ _ _ _ _).trans (congrArg (· + (z 1).val) (congrFun hoff 1))
  unfold gath
  rw [if_neg (by rw [hq]; omega), if_pos (by rw [hq]; omega), ← hu]
  show pool2 x ((Rect.unit (s := S1024x64) (k0_off10 u) S32x64.size (chk5 u hlt)).emb z) = _
  unfold pool2
  rw [show 64 * (((Rect.unit (s := S1024x64) (k0_off10 u) S32x64.size (chk5 u hlt)).emb z 0).val / 32) = 64 * u.toNat by rw [hq']; omega]
  congr 1
  refine congrArg₂ ix2 (Fin.ext ?_) (Fin.ext ?_)
  · show ((Rect.unit (s := S1024x64) (k0_off10 u) S32x64.size (chk5 u hlt)).emb z 0).val % 32 = ((Rect.unit (s := S384x64) ![r, 0] S32x64.size inb').emb z 0).val % 32
    rw [hq', hq]; omega
  · exact hc'.trans hc.symm

/-- A block pooled by eight in its place. -/
theorem storedEight (v : View sg κ sp S256x64 .f32) (f : v.ty.Contents (Elt F)) (x : Vec F S1x1x2048x64 .f32)
    (hf : v.read (Elt F) f = pool8 x) (ws : Fin 32 → BitVec 32) {r : ℕ} (hr : r % 8 = 0 ∧ 288 ≤ r ∧ r < 344)
    (u : BitVec 32) (hu : u = ws ⟨(5 + (r - 288) / 8) % 32, by omega⟩) (hlt : u.toNat < 32) (w : Vec F S8x64 .f32)
    (hw : w = k0_pay220 (v.readAt (Elt F) (Rect.unit (s := S256x64) (k0_off12 u) S8x64.size (chk6 u hlt)).toLoadRect f))
    (inb' : ∀ a, (![r, 0] : Fin 2 → ℕ) a + S8x64.size a ≤ S384x64.size a) (z : S8x64.Idx) :
    w z = gath ws x ((Rect.unit (s := S384x64) ![r, 0] S8x64.size inb').emb z) := by
  subst hw
  have e := muli_toNat u hlt 8 (by omega)
  have hoff : k0_off12 u = ![u.toNat * 8, 0] := by unfold k0_off12; simp [Scalar.indexCast, e]
  have h0 : (z 0).val < 8 := (z 0).isLt
  have hq : ((Rect.unit (s := S384x64) ![r, 0] S8x64.size inb').emb z 0).val = r + (z 0).val := Rect.idx_unit_val _ _ _ _ _
  have hc : ((Rect.unit (s := S384x64) ![r, 0] S8x64.size inb').emb z 1).val = 0 + (z 1).val := Rect.idx_unit_val _ _ _ _ _
  unfold k0_pay220
  dsimp only
  rw [shapeCast_self, View.readAt_eq_ld, hf]
  have hq' : ((Rect.unit (s := S256x64) (k0_off12 u) S8x64.size (chk6 u hlt)).emb z 0).val = u.toNat * 8 + (z 0).val := (Rect.idx_unit_val _ _ _ _ _).trans (congrArg (· + (z 0).val) (congrFun hoff 0))
  have hc' : ((Rect.unit (s := S256x64) (k0_off12 u) S8x64.size (chk6 u hlt)).emb z 1).val = 0 + (z 1).val := (Rect.idx_unit_val _ _ _ _ _).trans (congrArg (· + (z 1).val) (congrFun hoff 1))
  unfold gath
  rw [if_neg (by rw [hq]; omega), if_neg (by rw [hq]; omega), if_pos (by rw [hq]; omega)]
  have hj : (⟨(5 + (((Rect.unit (s := S384x64) ![r, 0] S8x64.size inb').emb z 0).val - 288) / 8) % 32, by omega⟩ : Fin 32) = ⟨(5 + (r - 288) / 8) % 32, by omega⟩ :=
    Fin.ext (by show (5 + (((Rect.unit (s := S384x64) ![r, 0] S8x64.size inb').emb z 0).val - 288) / 8) % 32 = (5 + (r - 288) / 8) % 32; rw [hq]; omega)
  rw [hj, ← hu]
  show pool8 x ((Rect.unit (s := S256x64) (k0_off12 u) S8x64.size (chk6 u hlt)).emb z) = _
  unfold pool8
  rw [show 64 * (((Rect.unit (s := S256x64) (k0_off12 u) S8x64.size (chk6 u hlt)).emb z 0).val / 8) = 64 * u.toNat by rw [hq']; omega]
  congr 1
  refine congrArg₂ ix2 (Fin.ext ?_) (Fin.ext ?_)
  · show 32 + ((Rect.unit (s := S256x64) (k0_off12 u) S8x64.size (chk6 u hlt)).emb z 0).val % 8 = 32 + ((Rect.unit (s := S384x64) ![r, 0] S8x64.size inb').emb z 0).val % 8
    rw [hq', hq]; omega
  · exact hc'.trans hc.symm

/-- The rows of zero. -/
theorem storedZero (x : Vec F S1x1x2048x64 .f32) (ws : Fin 32 → BitVec 32) {r : ℕ} (hr : r = 344) (w : Vec F S40x64 .f32) (hw : w = k0_pay236)
    (inb' : ∀ a, (![r, 0] : Fin 2 → ℕ) a + S40x64.size a ≤ S384x64.size a) (z : S40x64.Idx) :
    w z = gath ws x ((Rect.unit (s := S384x64) ![r, 0] S40x64.size inb').emb z) := by
  subst hw
  have hq : ((Rect.unit (s := S384x64) ![r, 0] S40x64.size inb').emb z 0).val = r + (z 0).val := Rect.idx_unit_val _ _ _ _ _
  unfold gath
  rw [if_neg (by rw [hq]; omega), if_neg (by rw [hq]; omega), if_neg (by rw [hq]; omega)]
  unfold k0_pay236
  rw [shapeCast_self]
  rfl

/-- A buffer held at some contents is held reading something. -/
theorem owns_some (c : Dev nD) {sh : Shape} {e : EltTy} (m : Memref sig .tc .vmem sh e) (f : m.view.ty.Contents (Elt F)) :
    ((m.view.loc (c : Thread nD τ) ↦[m.view.set]{fullShare} f) : sProp 𝕄)
    ⊢ iprop(∃ d, ∃ g, ⌜m.view.read (Elt F) g = d⌝ ∗ (m.view.loc (c : Thread nD τ) ↦[m.view.set]{fullShare} g)) := by
  iintro H
  iexists (m.view.read (Elt F) f)
  iexists f
  isplitr
  · ipureintro; rfl
  · iexact H

/-- A load of all the gathered rows, after stores that cover them. -/
theorem readCov_of_pieces (v : View sg κ sp S384x64 .f32) (L : List (View.Piece (Elt F) S384x64 .f32)) (G : Vec F S384x64 .f32)
    (inb : ∀ a, (![0, 0] : Fin 2 → ℕ) a + S384x64.size a ≤ S384x64.size a)
    (hG : View.PiecesOf G L) (hc : ∀ y, ∃ p ∈ L, y ∈ p.1.set) :
    v.readCov L (Rect.unit (s := S384x64) ![0, 0] S384x64.size inb).toLoadRect = G := by
  refine (View.readCov_eq_canon_ld v L _ hc).trans ?_
  rw [show View.canon L = G from funext fun y => by
    have := View.canon_append_of_piecesOf G [] L hG y (hc y)
    rwa [List.append_nil] at this]
  exact View.ld_unit_lit _ _ (by decide)

end

variable (c : Dev nD) (i : grid0.Coords) (arg2 : Memref sig .tc .smem S12x16x32 .i32) (harg2 : arg2.IsWhole) (arg3 : Memref sig .tc .vmem S1x1x128x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x128x64 .f32) (harg6 : arg6.IsWhole) (arg7 : Memref sig .tc .vmem S1024x64 .f32) (harg7 : arg7.IsWhole) (arg8 : Memref sig .tc .vmem S256x64 .f32) (harg8 : arg8.IsWhole) (arg9 : Memref sig .tc .vmem S1024x64 .f32) (harg9 : arg9.IsWhole) (arg10 : Memref sig .tc .vmem S256x64 .f32) (harg10 : arg10.IsWhole) (arg11 : Memref sig .tc .vmem S384x64 .f32) (harg11 : arg11.IsWhole) (arg12 : Memref sig .tc .vmem S384x64 .f32) (harg12 : arg12.IsWhole)

/-- What the kernel does before it gathers: at the first block of rows of a head it pools the head, at the
    others the pooled arrays are there already. -/
theorem first_step (x2 x3 : Vec F S1x1x2048x64 .f32) (E : Set ℕ) (d7 d9 : Vec F S1024x64 .f32) (d8 d10 : Vec F S256x64 .f32) (v2 : BitVec 1)
    (h : v2 ≠ 1#1 → d7 = pool2 x2 ∧ d8 = pool8 x2 ∧ d9 = pool2 x3 ∧ d10 = pool8 x3) :
    (iprop(owns (c : Thread nD τ) arg4 fullShare x2 ∗ owns (c : Thread nD τ) arg5 fullShare x3
      ∗ owns (c : Thread nD τ) arg7 fullShare d7 ∗ owns (c : Thread nD τ) arg8 fullShare d8
      ∗ owns (c : Thread nD τ) arg9 fullShare d9 ∗ owns (c : Thread nD τ) arg10 fullShare d10) : sProp 𝕄)
    ⊢ wp frame (wpE (defs₀ (F := F)) Variants.none c none) E
      (if _h : v2 = 1#1 then buildProg (F := F) i arg2 harg2 arg3 harg3 arg4 harg4 arg5 harg5 arg6 harg6 arg7 harg7 arg8 harg8 arg9 harg9 arg10 harg10 arg11 harg11 arg12 harg12 else pure ⟨⟩)
      (fun _ => iprop(owns (c : Thread nD τ) arg4 fullShare x2 ∗ owns (c : Thread nD τ) arg5 fullShare x3
        ∗ owns (c : Thread nD τ) arg7 fullShare (pool2 x2) ∗ owns (c : Thread nD τ) arg8 fullShare (pool8 x2)
        ∗ owns (c : Thread nD τ) arg9 fullShare (pool2 x3) ∗ owns (c : Thread nD τ) arg10 fullShare (pool8 x3))) := by
  by_cases hv : v2 = 1#1
  · rw [dif_pos hv]
    refine BIBase.Entails.trans ?_ (build c i arg2 harg2 arg3 harg3 arg4 harg4 arg5 harg5 arg6 harg6 arg7 harg7 arg8 harg8 arg9 harg9 arg10 harg10 arg11 harg11 arg12 harg12 x2 x3 E)
    iintro ⟨H2, H3, HS0, HS1, HS2, HS3⟩
    isplitl [H2]; · iexact H2
    isplitl [H3]; · iexact H3
    isplitl [HS0]; · iexists _; iexact HS0
    isplitl [HS1]; · iexists _; iexact HS1
    isplitl [HS2]; · iexists _; iexact HS2
    iexists _; iexact HS3
  · rw [dif_neg hv]
    obtain ⟨rfl, rfl, rfl, rfl⟩ := h hv
    iintro H
    sl_step
    iexact H

/-- What the kernel does next, up to the keys of the second chosen block: the rest of its first part. -/
def afterFirst : Unit → Prog (TpuEff nD τ sig (Elt F) Λ₀ .tc) (Σ' (arg0 : BitVec 32) (arg1 : BitVec 32) (v22 : Elt F .i32), k0_chk2 v22) := fun _ => do
    let arg0 : BitVec 32 := BitVec.ofNat 32 (i 0).val
    let arg1 : BitVec 32 := BitVec.ofNat 32 (i 1).val
    let v5 : Elt F .i32 ← smemLoad arg2 (Rect.unit (s := S12x16x32) (k0_off1 i) S1x1x1.size (k0_off1_inb i)) numel1_S1x1x1 rfl
    have k0_hw1 : k0_chk1 v5 := (← Prog.lift (TpuEff.assume (k0_chk1 v5) (k0_chk1.dec v5))).down
    let v8 : Vec F S1x1x64x64 .f32 ← Prog.lift (.load arg4 (Rect.unit (s := S1x1x2048x64) (k0_off2 v5) S1x1x64x64.size (k0_off2_inb v5 k0_hw1)).toLoadRect (View.loadsAt_vmem h_S1x1x64x64))
    let v10 : Vec F S64x64 .f32 ← Prog.lift (.load arg11 (Rect.unit (s := S384x64) ![0, 0] S64x64.size inb_S384x64_S64x64_0_0).toLoadRect (View.loadsAt_vmem h_S64x64))
    Prog.lift (.store arg11 (Rect.unit (s := S384x64) ![0, 0] S64x64.size inb_S384x64_S64x64_0_0) (k0_pay209 v8) Finset.univ (View.stores_vmem_bits_univ h_S64x64 rfl) (.inl rfl))
    let v15 : Vec F S1x1x64x64 .f32 ← Prog.lift (.load arg5 (Rect.unit (s := S1x1x2048x64) (k0_off2 v5) S1x1x64x64.size (k0_off2_inb v5 k0_hw1)).toLoadRect (View.loadsAt_vmem h_S1x1x64x64))
    let v17 : Vec F S64x64 .f32 ← Prog.lift (.load arg12 (Rect.unit (s := S384x64) ![0, 0] S64x64.size inb_S384x64_S64x64_0_0).toLoadRect (View.loadsAt_vmem h_S64x64))
    Prog.lift (.store arg12 (Rect.unit (s := S384x64) ![0, 0] S64x64.size inb_S384x64_S64x64_0_0) (k0_pay210 v15) Finset.univ (View.stores_vmem_bits_univ h_S64x64 rfl) (.inl rfl))
    let v22 : Elt F .i32 ← smemLoad arg2 (Rect.unit (s := S12x16x32) (k0_off3 i) S1x1x1.size (k0_off3_inb i)) numel1_S1x1x1 rfl
    have k0_hw2 : k0_chk2 v22 := (← Prog.lift (TpuEff.assume (k0_chk2 v22) (k0_chk2.dec v22))).down
    let v25 : Vec F S1x1x64x64 .f32 ← Prog.lift (.load arg4 (Rect.unit (s := S1x1x2048x64) (k0_off4 v22) S1x1x64x64.size (k0_off4_inb v22 k0_hw2)).toLoadRect (View.loadsAt_vmem h_S1x1x64x64))
    let v27 : Vec F S64x64 .f32 ← Prog.lift (.load arg11 (Rect.unit (s := S384x64) ![64, 0] S64x64.size inb_S384x64_S64x64_64_0).toLoadRect (View.loadsAt_vmem h_S64x64))
    Prog.lift (.store arg11 (Rect.unit (s := S384x64) ![64, 0] S64x64.size inb_S384x64_S64x64_64_0) (k0_pay211 v25) Finset.univ (View.stores_vmem_bits_univ h_S64x64 rfl) (.inl rfl))
    pure ⟨arg0, arg1, v22, k0_hw2⟩

/-- The same, followed by whatever comes next. -/
theorem first_then (x2 x3 : Vec F S1x1x2048x64 .f32) (E : Set ℕ) (d7 d9 : Vec F S1024x64 .f32) (d8 d10 : Vec F S256x64 .f32) (v2 : BitVec 1)
    (h : v2 ≠ 1#1 → d7 = pool2 x2 ∧ d8 = pool8 x2 ∧ d9 = pool2 x3 ∧ d10 = pool8 x3)
    {β : Type} (next : Unit → Prog (TpuEff nD τ sig (Elt F) Λ₀ .tc) β) (Q : β → sProp 𝕄) :
    (iprop((owns (c : Thread nD τ) arg4 fullShare x2 ∗ owns (c : Thread nD τ) arg5 fullShare x3
      ∗ owns (c : Thread nD τ) arg7 fullShare d7 ∗ owns (c : Thread nD τ) arg8 fullShare d8
      ∗ owns (c : Thread nD τ) arg9 fullShare d9 ∗ owns (c : Thread nD τ) arg10 fullShare d10)
      ∗ ((owns (c : Thread nD τ) arg4 fullShare x2 ∗ owns (c : Thread nD τ) arg5 fullShare x3
        ∗ owns (c : Thread nD τ) arg7 fullShare (pool2 x2) ∗ owns (c : Thread nD τ) arg8 fullShare (pool8 x2)
        ∗ owns (c : Thread nD τ) arg9 fullShare (pool2 x3) ∗ owns (c : Thread nD τ) arg10 fullShare (pool8 x3))
        -∗ wp frame (wpE (defs₀ (F := F)) Variants.none c none) E (next ⟨⟩) Q)) : sProp 𝕄)
    ⊢ wp frame (wpE (defs₀ (F := F)) Variants.none c none) E
      (if _h : v2 = 1#1 then do
        let ⟨v986, v994⟩ : Σ' (v986 : FVec F S40x64 .f32), FVec F S8x64 .f32 ← k0_part25 i arg2 harg2 arg3 harg3 arg4 harg4 arg5 harg5 arg6 harg6 arg7 harg7 arg8 harg8 arg9 harg9 arg10 harg10 arg11 harg11 arg12 harg12
        Prog.lift (.store arg8 (Rect.unit (s := S256x64) ![248, 0] S8x64.size inb_S256x64_S8x64_248_0) v994 Finset.univ (View.stores_vmem_bits_univ h_S8x64 rfl) (.inl rfl))
        let _v996 : Vec F S32x64 .f32 ← Prog.lift (.load arg9 (Rect.unit (s := S1024x64) ![992, 0] S32x64.size inb_S1024x64_S32x64_992_0).toLoadRect (View.loadsAt_vmem h_S32x64))
        Prog.lift (.store arg9 (Rect.unit (s := S1024x64) ![992, 0] S32x64.size inb_S1024x64_S32x64_992_0) (k0_pay207 v986) Finset.univ (View.stores_vmem_bits_univ h_S32x64 rfl) (.inl rfl))
        let _v1000 : Vec F S8x64 .f32 ← Prog.lift (.load arg10 (Rect.unit (s := S256x64) ![248, 0] S8x64.size inb_S256x64_S8x64_248_0).toLoadRect (View.loadsAt_vmem h_S8x64))
        Prog.lift (.store arg10 (Rect.unit (s := S256x64) ![248, 0] S8x64.size inb_S256x64_S8x64_248_0) (k0_pay208 v986) Finset.univ (View.stores_vmem_bits_univ h_S8x64 rfl) (.inl rfl))
        next ⟨⟩ else next ⟨⟩) Q := by
  have key := Idealize.ShloMosaic.LaneScatter.bind_of_run _ _ _ (first_step c i arg2 harg2 arg3 harg3 arg4 harg4 arg5 harg5 arg6 harg6 arg7 harg7 arg8 harg8 arg9 harg9 arg10 harg10 arg11 harg11 arg12 harg12 x2 x3 E d7 d9 d8 d10 v2 h) next Q
  by_cases hv : v2 = 1#1
  · rw [dif_pos hv] at key ⊢
    unfold buildProg at key
    simp only [bind_assoc, pure_bind] at key
    exact key
  · rw [dif_neg hv] at key ⊢
    rw [pure_bind] at key
    exact key

theorem part26_eq : k0_part26 (F := F) i arg2 harg2 arg3 harg3 arg4 harg4 arg5 harg5 arg6 harg6 arg7 harg7 arg8 harg8 arg9 harg9 arg10 harg10 arg11 harg11 arg12 harg12 =
      (if _h : Scalar.cmpi .ne (Scalar.extui (Scalar.cmpi .eq (BitVec.ofNat 32 (i 1).val) 0#32) : BitVec 32) 0#32 = 1#1 then do
        let ⟨v986, v994⟩ : Σ' (v986 : FVec F S40x64 .f32), FVec F S8x64 .f32 ← k0_part25 i arg2 harg2 arg3 harg3 arg4 harg4 arg5 harg5 arg6 harg6 arg7 harg7 arg8 harg8 arg9 harg9 arg10 harg10 arg11 harg11 arg12 harg12
        Prog.lift (.store arg8 (Rect.unit (s := S256x64) ![248, 0] S8x64.size inb_S256x64_S8x64_248_0) v994 Finset.univ (View.stores_vmem_bits_univ h_S8x64 rfl) (.inl rfl))
        let _v996 : Vec F S32x64 .f32 ← Prog.lift (.load arg9 (Rect.unit (s := S1024x64) ![992, 0] S32x64.size inb_S1024x64_S32x64_992_0).toLoadRect (View.loadsAt_vmem h_S32x64))
        Prog.lift (.store arg9 (Rect.unit (s := S1024x64) ![992, 0] S32x64.size inb_S1024x64_S32x64_992_0) (k0_pay207 v986) Finset.univ (View.stores_vmem_bits_univ h_S32x64 rfl) (.inl rfl))
        let _v1000 : Vec F S8x64 .f32 ← Prog.lift (.load arg10 (Rect.unit (s := S256x64) ![248, 0] S8x64.size inb_S256x64_S8x64_248_0).toLoadRect (View.loadsAt_vmem h_S8x64))
        Prog.lift (.store arg10 (Rect.unit (s := S256x64) ![248, 0] S8x64.size inb_S256x64_S8x64_248_0) (k0_pay208 v986) Finset.univ (View.stores_vmem_bits_univ h_S8x64 rfl) (.inl rfl))
        afterFirst i arg2 arg4 arg5 arg11 arg12 ⟨⟩ else afterFirst i arg2 arg4 arg5 arg11 arg12 ⟨⟩) := rfl

theorem word_lt (x0 : S12x16x32.Idx → BitVec 32) (hsel : ∀ y, (x0 y).toNat < 32) (r : Rect S12x16x32) (j : r.shape.Idx) :
    (arg2.view.readAt (Elt F) r.toLoadRect (harg2.unread x0) j : BitVec 32).toNat < 32 := by
  rw [View.readAt_eq_ld, harg2.read_unread]
  exact hsel _

set_option maxHeartbeats 800000 in
theorem run (x0 : S12x16x32.Idx → Elt F .i32) (hsel : ∀ y, (x0 y : BitVec 32).toNat < 32) (x1 : Vec F S1x1x128x64 .f32) (x2 x3 : Vec F S1x1x2048x64 .f32) (E : Set ℕ) (d7 d9 : Vec F S1024x64 .f32) (d8 d10 : Vec F S256x64 .f32)
    (h : Scalar.cmpi .ne (Scalar.extui (Scalar.cmpi .eq (BitVec.ofNat 32 (i 1).val) 0#32) : BitVec 32) 0#32 ≠ 1#1 → d7 = pool2 x2 ∧ d8 = pool8 x2 ∧ d9 = pool2 x3 ∧ d10 = pool8 x3) :
    (iprop(owns (c : Thread nD τ) arg2 fullShare x0 ∗ owns (c : Thread nD τ) arg3 fullShare x1
      ∗ (owns (c : Thread nD τ) arg4 fullShare x2 ∗ owns (c : Thread nD τ) arg5 fullShare x3
      ∗ owns (c : Thread nD τ) arg7 fullShare d7 ∗ owns (c : Thread nD τ) arg8 fullShare d8
      ∗ owns (c : Thread nD τ) arg9 fullShare d9 ∗ owns (c : Thread nD τ) arg10 fullShare d10)
      ∗ (∃ d, owns (c : Thread nD τ) arg6 fullShare d)
      ∗ (∃ d, owns (c : Thread nD τ) arg11 fullShare d) ∗ (∃ d, owns (c : Thread nD τ) arg12 fullShare d)) : sProp 𝕄)
    ⊢ wp frame (wpE (defs₀ (F := F)) Variants.none c none) E
      (cc0__attn_kernel (F := F) i arg2 harg2 arg3 harg3 arg4 harg4 arg5 harg5 arg6 harg6 arg7 harg7 arg8 harg8 arg9 harg9 arg10 harg10 arg11 harg11 arg12 harg12)
      (fun _ => iprop(owns (c : Thread nD τ) arg2 fullShare x0 ∗ owns (c : Thread nD τ) arg3 fullShare x1
      ∗ owns (c : Thread nD τ) arg4 fullShare x2 ∗ owns (c : Thread nD τ) arg5 fullShare x3
      ∗ owns (c : Thread nD τ) arg6 fullShare (outBlock (wordAt i x0) x1 x2 x3)
      ∗ owns (c : Thread nD τ) arg7 fullShare (pool2 x2) ∗ owns (c : Thread nD τ) arg8 fullShare (pool8 x2)
      ∗ owns (c : Thread nD τ) arg9 fullShare (pool2 x3) ∗ owns (c : Thread nD τ) arg10 fullShare (pool8 x3)
      ∗ (∃ d, owns (c : Thread nD τ) arg11 fullShare d) ∗ (∃ d, owns (c : Thread nD τ) arg12 fullShare d))) := by
  simp only [cc0__attn_kernel_eq_skeleton]; unfold cc0__attn_kernel_skel
  rw [part26_eq, wp_bind]
  iintro ⟨H0, H1, HB, H4, HS4, HS5⟩
  iapply (first_then c i arg2 harg2 arg3 harg3 arg4 harg4 arg5 harg5 arg6 harg6 arg7 harg7 arg8 harg8 arg9 harg9 arg10 harg10 arg11 harg11 arg12 harg12 x2 x3 E d7 d9 d8 d10 _ h (afterFirst i arg2 arg4 arg5 arg11 arg12) _)
  isplitl [HB]
  · iexact HB
  unfold afterFirst
  simp only [k0_part27_eq_skeleton, k0_part28_eq_skeleton, k0_part29_eq_skeleton, k0_part30_eq_skeleton, k0_part31_eq_skeleton, k0_part32_eq_skeleton]
  unfold owns
  iintro ⟨⟨%f2, %hf2, H2⟩, ⟨%f3, %hf3, H3⟩, ⟨%f7, %hf7, HS0⟩, ⟨%f8, %hf8, HS1⟩, ⟨%f9, %hf9, HS2⟩, ⟨%f10, %hf10, HS3⟩⟩
  icases H0 with ⟨%f0, %hf0, H0⟩
  icases H1 with ⟨%f1, %hf1, H1⟩
  icases H4 with ⟨%d4, %f4, -, H4⟩
  icases HS4 with ⟨%d11, %f11, -, HS4⟩
  icases HS5 with ⟨%d12, %f12, -, HS5⟩
  obtain rfl := harg2.eq_unread hf0; obtain rfl := harg3.eq_unread hf1
  obtain rfl := harg4.eq_unread hf2; obtain rfl := harg5.eq_unread hf3
  obtain rfl := harg7.eq_unread hf7; obtain rfl := harg8.eq_unread hf8
  obtain rfl := harg9.eq_unread hf9; obtain rfl := harg10.eq_unread hf10
  sl_exec (disch := first
    | (with_reducible refine chk1 _ ?_); exact word_lt arg2 harg2 x0 hsel _ _
    | (with_reducible refine chk2 _ ?_); exact word_lt arg2 harg2 x0 hsel _ _
    | (with_reducible refine chk3 _ ?_); exact word_lt arg2 harg2 x0 hsel _ _
    | (with_reducible refine chk4 _ ?_); exact word_lt arg2 harg2 x0 hsel _ _
    | (with_reducible refine chk5 _ ?_); exact word_lt arg2 harg2 x0 hsel _ _
    | (with_reducible refine chk6 _ ?_); exact word_lt arg2 harg2 x0 hsel _ _
    | (with_reducible refine chk7 _ ?_); exact word_lt arg2 harg2 x0 hsel _ _
    | (with_reducible refine chk8 _ ?_); exact word_lt arg2 harg2 x0 hsel _ _
    | (with_reducible refine chk9 _ ?_); exact word_lt arg2 harg2 x0 hsel _ _
    | (with_reducible refine chk10 _ ?_); exact word_lt arg2 harg2 x0 hsel _ _
    | (with_reducible refine chk11 _ ?_); exact word_lt arg2 harg2 x0 hsel _ _
    | (with_reducible refine chk12 _ ?_); exact word_lt arg2 harg2 x0 hsel _ _)
  have hws : ∀ j, (wordAt i x0 j).toNat < 32 := fun j => hsel _
  sl_step
  isplitl [H0]
  · iexists _; isplitr; swap; iexact H0; ipureintro; exact harg2.read_unread _
  isplitl [H1]
  · iexists _; isplitr; swap; iexact H1; ipureintro; exact harg3.read_unread _
  isplitl [H2]
  · iexists _; isplitr; swap; iexact H2; ipureintro; exact harg4.read_unread _
  isplitl [H3]
  · iexists _; isplitr; swap; iexact H3; ipureintro; exact harg5.read_unread _
  isplitl [H4]
  · iexists _; isplitr; swap; iexact H4
    ipureintro
    refine (View.read_writes_full _ _ _ _ _).trans ?_
    unfold outBlock
    refine congrArg₂ k0_pay1 ?_ (congrArg₂ k0_pay237 ?_ ?_)
    · refine readCov_of_pieces _ _ _ _ ?_ (View.cover_of_tiledBy _ S8x64.size (by sl_kernel_rfl))
      repeat' first
      | exact trivial
      | refine ⟨storedZero x3 _ rfl _ (by sl_kernel_rfl) (by decide), ?_⟩
      | refine ⟨storedEight arg10.view _ x3 (harg10.read_unread _) (wordAt i x0) (by decide) _ (word_eq i arg2.view (harg2.unread x0) x0 (harg2.read_unread x0) _ (by decide) (offW_inb i _ (by decide)) (Shape.Idx.first (numel1_S1x1x1.symm ▸ Nat.one_pos))) (word_lt arg2 harg2 x0 hsel _ _) _ (by sl_kernel_rfl) (by decide), ?_⟩
      | refine ⟨storedTwo arg9.view _ x3 (harg9.read_unread _) (wordAt i x0) rfl _ (word_eq i arg2.view (harg2.unread x0) x0 (harg2.read_unread x0) 4 (by decide) (offW_inb i _ (by decide)) (Shape.Idx.first (numel1_S1x1x1.symm ▸ Nat.one_pos))) (word_lt arg2 harg2 x0 hsel _ _) _ (by sl_kernel_rfl) (by decide), ?_⟩
      | refine ⟨storedRow arg5.view _ x3 (harg5.read_unread _) (wordAt i x0) hws (by decide) _ (word_eq i arg2.view (harg2.unread x0) x0 (harg2.read_unread x0) _ (by decide) (offW_inb i _ (by decide)) (Shape.Idx.first (numel1_S1x1x1.symm ▸ Nat.one_pos))) (word_lt arg2 harg2 x0 hsel _ _) _ (by sl_kernel_rfl) (by decide), ?_⟩
    · rw [View.readAt_eq_ld, harg3.read_unread]
      exact View.ld_unit_lit _ _ (by decide)
    · refine readCov_of_pieces _ _ _ _ ?_ (View.cover_of_tiledBy _ S8x64.size (by sl_kernel_rfl))
      repeat' first
      | exact trivial
      | refine ⟨storedZero x2 _ rfl _ (by sl_kernel_rfl) (by decide), ?_⟩
      | refine ⟨storedEight arg8.view _ x2 (harg8.read_unread _) (wordAt i x0) (by decide) _ (word_eq i arg2.view (harg2.unread x0) x0 (harg2.read_unread x0) _ (by decide) (offW_inb i _ (by decide)) (Shape.Idx.first (numel1_S1x1x1.symm ▸ Nat.one_pos))) (word_lt arg2 harg2 x0 hsel _ _) _ (by sl_kernel_rfl) (by decide), ?_⟩
      | refine ⟨storedTwo arg7.view _ x2 (harg7.read_unread _) (wordAt i x0) rfl _ (word_eq i arg2.view (harg2.unread x0) x0 (harg2.read_unread x0) 4 (by decide) (offW_inb i _ (by decide)) (Shape.Idx.first (numel1_S1x1x1.symm ▸ Nat.one_pos))) (word_lt arg2 harg2 x0 hsel _ _) _ (by sl_kernel_rfl) (by decide), ?_⟩
      | refine ⟨storedRow arg4.view _ x2 (harg4.read_unread _) (wordAt i x0) hws (by decide) _ (word_eq i arg2.view (harg2.unread x0) x0 (harg2.read_unread x0) _ (by decide) (offW_inb i _ (by decide)) (Shape.Idx.first (numel1_S1x1x1.symm ▸ Nat.one_pos))) (word_lt arg2 harg2 x0 hsel _ _) _ (by sl_kernel_rfl) (by decide), ?_⟩
  isplitl [HS0]
  · iexists _; isplitr; swap; iexact HS0; ipureintro; exact harg7.read_unread _
  isplitl [HS1]
  · iexists _; isplitr; swap; iexact HS1; ipureintro; exact harg8.read_unread _
  isplitl [HS2]
  · iexists _; isplitr; swap; iexact HS2; ipureintro; exact harg9.read_unread _
  isplitl [HS3]
  · iexists _; isplitr; swap; iexact HS3; ipureintro; exact harg10.read_unread _
  isplitl [HS4]
  · iapply (owns_some c arg11 _); iexact HS4
  · iapply (owns_some c arg12 _); iexact HS5

end Cert.KernelIdeal.Attn
end
-- ==== Proof.Whole.lean ====
module

public import proofs.«01_k».proof.Proof.Run
public import Idealize.ShloMosaic.Lib.Pipeline.ValueKit

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks that the points find -/

theorem coords0 (t : Fin cfg0.N) : (grid0.coords t 0).val = t.val / 16 := by
  have ht : t.val < 192 := Nat.lt_of_lt_of_eq t.isLt N_0
  have e0 : (grid0.coords t 0).val = t.val / 16 % 12 := Pipeline.Grid.coords_val t 0 (by decide) rfl
  omega

theorem coords1 (t : Fin cfg0.N) : (grid0.coords t 1).val = t.val % 16 := by
  have e1 : (grid0.coords t 1).val = t.val / 1 % 16 := Pipeline.Grid.coords_val t 1 (by decide) rfl
  omega

/-- The body's test for the first query block of a head. -/
theorem first_iff (t : Fin cfg0.N) :
    Scalar.cmpi .ne (Scalar.extui (Scalar.cmpi .eq (BitVec.ofNat 32 (grid0.coords t 1).val) 0#32) : BitVec 32) 0#32 = 1#1 ↔ t.val % 16 = 0 := by
  rw [coords1]
  word_cmp

theorem idx (t : Fin cfg0.N) : (cfg0.win 0).index t = ![0, 0, 0]
    ∧ (cfg0.win 1).index t = ![0, (grid0.coords t 0).val, (grid0.coords t 1).val, 0]
    ∧ (cfg0.win 2).index t = ![0, (grid0.coords t 0).val, 0, 0]
    ∧ (cfg0.win 3).index t = ![0, (grid0.coords t 0).val, 0, 0]
    ∧ (cfg0.win 4).index t = ![0, (grid0.coords t 0).val, (grid0.coords t 1).val, 0] := by
  revert t
  decide +kernel

/-- One head of an array of all heads. -/
def headOf (X : Vec F S1x12x2048x64 .f32) (h : ℕ) : Vec F S1x1x2048x64 .f32 := fun z =>
  X (ix4 0 ⟨h % 12, by omega⟩ (z 2) (z 3))

theorem iblk2 (c : Dev nD) (t : Fin cfg0.N) : iblk m c 2 t = headOf (m ((c : Thread nD τ).loc main_arg1)) (t.val / 16) := by
  rw [← V_main_arg1 m c]
  have := (idx t).2.2.1
  have := coords0 t
  have ht : t.val < 192 := Nat.lt_of_lt_of_eq t.isLt N_0
  funext z
  unfold headOf
  blk_ext [iblk, idx t, coords0 t]

theorem iblk3 (c : Dev nD) (t : Fin cfg0.N) : iblk m c 3 t = headOf (m ((c : Thread nD τ).loc main_arg2)) (t.val / 16) := by
  rw [← V_main_arg2 m c]
  have ht : t.val < 192 := Nat.lt_of_lt_of_eq t.isLt N_0
  funext z
  unfold headOf
  blk_ext [iblk, idx t, coords0 t]

/-- Every block number in the block order that the kernel is handed is one of a head's 32 blocks. -/
def OrderOK : Prop := ∀ (c : Dev nD) (t : Fin cfg0.N) (y : S12x16x32.Idx), (iblk m c 0 t y : BitVec 32).toNat < 32

/-! ## What the points leave -/

/-- The block of results of point `t`. -/
def outAt (c : Dev nD) (t : Fin cfg0.N) : FVec F S1x1x128x64 .f32 :=
  outBlock (wordAt (grid0.coords t) (iblk m c 0 t)) (iblk m c 1 t) (headOf (m ((c : Thread nD τ).loc main_arg1)) (t.val / 16)) (headOf (m ((c : Thread nD τ).loc main_arg2)) (t.val / 16))

/-- What the core holds between points: after point `n` the pooled arrays of that point's head. -/
def PhiS (c : Dev nD) : ℕ → sProp 𝕄
  | 0 => Pipeline.ΦA spec0 c
  | n + 1 => iprop(iprop(owns (c : Thread nD τ) (Memref.whole cc0_scratch0) fullShare (pool2 (headOf (m ((c : Thread nD τ).loc main_arg1)) (n / 16))) ∗ owns (c : Thread nD τ) (Memref.whole cc0_scratch1) fullShare (pool8 (headOf (m ((c : Thread nD τ).loc main_arg1)) (n / 16))) ∗ owns (c : Thread nD τ) (Memref.whole cc0_scratch2) fullShare (pool2 (headOf (m ((c : Thread nD τ).loc main_arg2)) (n / 16))) ∗ owns (c : Thread nD τ) (Memref.whole cc0_scratch3) fullShare (pool8 (headOf (m ((c : Thread nD τ).loc main_arg2)) (n / 16))) ∗ (∃ d, owns (c : Thread nD τ) (Memref.whole cc0_scratch4) fullShare d) ∗ (∃ d, owns (c : Thread nD τ) (Memref.whole cc0_scratch5) fullShare d)) ∗ (∃ r, prngReg c r))

theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- Before any point, the pooled arrays hold something; past the first point of a head, that head's pooled rows. -/
theorem PhiS_open (c : Dev nD) (t : Fin cfg0.N) : PhiS (F := F) m c t.val ⊢
    iprop(∃ d7 d8 d9 d10, ⌜¬ t.val % 16 = 0 → d7 = pool2 (headOf (m ((c : Thread nD τ).loc main_arg1)) (t.val / 16)) ∧ d8 = pool8 (headOf (m ((c : Thread nD τ).loc main_arg1)) (t.val / 16))
        ∧ d9 = pool2 (headOf (m ((c : Thread nD τ).loc main_arg2)) (t.val / 16)) ∧ d10 = pool8 (headOf (m ((c : Thread nD τ).loc main_arg2)) (t.val / 16))⌝
      ∗ iprop(owns (c : Thread nD τ) (Memref.whole cc0_scratch0) fullShare d7 ∗ owns (c : Thread nD τ) (Memref.whole cc0_scratch1) fullShare d8 ∗ owns (c : Thread nD τ) (Memref.whole cc0_scratch2) fullShare d9 ∗ owns (c : Thread nD τ) (Memref.whole cc0_scratch3) fullShare d10 ∗ (∃ d, owns (c : Thread nD τ) (Memref.whole cc0_scratch4) fullShare d) ∗ (∃ d, owns (c : Thread nD τ) (Memref.whole cc0_scratch5) fullShare d)) ∗ (∃ r, prngReg c r)) := by
  obtain ⟨n, hn⟩ := t
  cases n with
  | zero =>
    show Pipeline.ΦA spec0 c ⊢ _
    rw [PhiA_eq]
    iintro ⟨⟨⟨%d7, HS0⟩, ⟨%d8, HS1⟩, ⟨%d9, HS2⟩, ⟨%d10, HS3⟩, HS4, HS5⟩, Hg⟩
    iexists d7; iexists d8; iexists d9; iexists d10
    isplitr
    · ipureintro; intro h; exact absurd (Nat.zero_mod _) h
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  | succ n =>
    show PhiS (F := F) m c (n + 1) ⊢ _
    unfold PhiS
    iintro ⟨⟨HS0, HS1, HS2, HS3, HS4, HS5⟩, Hg⟩
    iexists _; iexists _; iexists _; iexists _
    isplitr
    swap
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    ipureintro
    intro h
    have e : n / 16 = (n + 1) / 16 := by
      have : ¬ (n + 1) % 16 = 0 := h
      omega
    exact ⟨congrArg (fun k => pool2 (headOf (m ((c : Thread nD τ).loc main_arg1)) k)) e, congrArg (fun k => pool8 (headOf (m ((c : Thread nD τ).loc main_arg1)) k)) e,
      congrArg (fun k => pool2 (headOf (m ((c : Thread nD τ).loc main_arg2)) k)) e, congrArg (fun k => pool8 (headOf (m ((c : Thread nD τ).loc main_arg2)) k)) e⟩

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

set_option maxHeartbeats 1600000 in
theorem sound_body (hH : OrderOK m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) from rfl, show (dats m 0 c).Φ t.castSucc = PhiS m c t.val from rfl]
  rw [iblk2, iblk3]
  refine (sep_mono (PhiS_open m c t) .rfl).trans ?_
  iintro ⟨⟨%d7, %d8, %d9, %d10, %hd, ⟨HS0, HS1, HS2, HS3, HS4, HS5⟩, Hg⟩, Ho, ⟨%e0, H0⟩, ⟨%e1, H1⟩, ⟨%e2, H2⟩, ⟨%e3, H3⟩, ⟨%e4, H4⟩⟩
  iapply wp_wand_r
  isplitl [H0 H1 H2 H3 H4 HS0 HS1 HS2 HS3 HS4 HS5]
  · iapply (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (hH c t) (iblk m c 1 t) _ _ Set.univ d7 d9 d8 d10 (fun h => hd fun e => h ((first_iff t).mpr e)))
    isplitl [H0]; · iexact H0
    isplitl [H1]; · iexact H1
    isplitl [H2 H3 HS0 HS1 HS2 HS3]
    · isplitl [H2]; · iexact H2
      isplitl [H3]; · iexact H3
      isplitl [HS0]; · iexact HS0
      isplitl [HS1]; · iexact HS1
      isplitl [HS2]; · iexact HS2
      iexact HS3
    isplitl [H4]; · iexists _; iexact H4
    isplitl [HS4]; · iexact HS4
    iexact HS5
  iintro %u ⟨H0, H1, H2, H3, H4, HS0, HS1, HS2, HS3, HS4, HS5⟩
  isplitl [HS0 HS1 HS2 HS3 HS4 HS5 Hg]
  · unfold PhiS
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (hH : OrderOK m) (c : Dev nD) : BodyObligation (dats (F := F) m 0 c) (defs₀ (F := F)) Variants.none () Set.univ := fun t => by
  rw [bigSep_W0, bigSep_W0, defs₀_row]
  exact triple_restated (sound_body m hH c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (191 + 1) from rfl, PhiA_eq]
  unfold PhiS
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexact HS4
    iexact HS5
  iexact Hg

/-! ## The whole run -/

set_option backward.isDefEq.respectTransparency.types false in
theorem run_main_quiescent (hH : OrderOK m) : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m hH c).loose) (hshare := fun c => (dats m 0 c).share_full fun _ => rfl)
    (howed := fun _ _ => rfl) (V := V m) (hmain := hmain m Variants.none) (hA := A_eq m) (hin := hin m) (hout := hout m)

theorem run_main (hH : OrderOK m) : θ_run defs (onTc (τ := τ) (main (F := F))) (s₀ m ρ) (Pipeline.FramePost cfgs (dats m) 0 (V m)) :=
  (θ_run defs _ _).mono (fun _ h => h.1) (run_main_quiescent m ρ hH)

theorem unchanged (hH : OrderOK m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hH)

/-- Where the block order is in range, every run ends, with the arguments as they were and every semaphore at zero. -/
theorem frame (hH : OrderOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hH) ((θ_run defs _ _).mono (fun _ h => h.2) (run_main_quiescent m ρ hH))

end Cert.KernelIdeal.Attn
end
-- ==== Proof.Order.lean ====
module

public import proofs.«01_k».proof.Proof.Whole
public import proofs.«01_k».proof.Pre_order_in_range
public import Idealize.ShloMosaic.Lib.StableHlo.RunRead

@[expose] public section

set_option maxRecDepth 16384

noncomputable section

namespace Cert.KernelIdeal.Attn

open Cert.KernelIdeal.Gen
open Cert.KernelIdeal.Facts
open Idealize.ShloMosaic Idealize.ShloMosaic.TcCoe Idealize.ShloMosaic.Tactic
open Idealize.SL.Sem

variable {F : FTy → Type} [FloatOps F] [Named F]

/-! ## The host steps in front of the kernel, as functions -/

/-- One row per drawn token: a one where the token's number is the drawn one. -/
def marks (arg0 : IVec S12x32 32) : FVec F S12x32x128 .f32 :=
  let v0 : IVec S12x32x1 32 := broadcastInDim S12x32x1 ![0, 1] bcast_S12x32_S12x32x1_0_1 arg0
  let v1 : IVec S1x1x128 32 := iotaInDim S1x1x128 32 2
  let v2 : IVec S12x32x128 32 := broadcastInDim S12x32x128 ![0, 1, 2] bcast_S12x32x1_S12x32x128_0_1_2 v0
  let v3 : IVec S12x32x128 32 := broadcastInDim S12x32x128 ![0, 1, 2] bcast_S1x1x128_S12x32x128_0_1_2 v1
  let v4 : IVec S12x32x128 1 := cmpi .eq v2 v3
  let v5 : FVec F S12x32x128 .f32 := uitofp .f32 v4
  v5

/-- The same for the key tokens. -/
def marksK (arg0 : IVec S12x16 32) : FVec F S12x16x64 .f32 :=
  let v0 : IVec S12x16x1 32 := broadcastInDim S12x16x1 ![0, 1] bcast_S12x16_S12x16x1_0_1 arg0
  let v1 : IVec S1x1x64 32 := iotaInDim S1x1x64 32 2
  let v2 : IVec S12x16x64 32 := broadcastInDim S12x16x64 ![0, 1, 2] bcast_S12x16x1_S12x16x64_0_1_2 v0
  let v3 : IVec S12x16x64 32 := broadcastInDim S12x16x64 ![0, 1, 2] bcast_S1x1x64_S12x16x64_0_1_2 v1
  let v4 : IVec S12x16x64 1 := cmpi .eq v2 v3
  let v5 : FVec F S12x16x64 .f32 := uitofp .f32 v4
  v5

/-- The drawn query tokens, block after block. -/
def drawnQ (arg0 : FVec F S1x12x2048x64 .f32) : FVec F S1x12x512x64 .f32 :=
  let c : IVec S1x12x1x32 32 := fun i => lit0 (S1x12x1x32.rowMajor i)
  let v0 : FVec F S1x12x16x128x64 .f32 := shapeCast S1x12x16x128x64 arg0 shapeCasts_S1x12x2048x64_S1x12x16x128x64
  let v1 : IVec S12x32 32 := shapeCast S12x32 c shapeCasts_S1x12x1x32_S12x32
  let v2 : FVec F S12x32x128 .f32 := marks v1
  let v3 : FVec F S1x12x1x32x128x1 .f32 := broadcastInDim S1x12x1x32x128x1 ![1, 3, 4] bcast_S12x32x128_S1x12x1x32x128x1_1_3_4 v2
  let v4 : FVec F S1x12x16x1x128x64 .f32 := broadcastInDim S1x12x16x1x128x64 ![0, 1, 2, 4, 5] bcast_S1x12x16x128x64_S1x12x16x1x128x64_0_1_2_4_5 v0
  let v5 : FVec F S1x12x16x32x128x64 .f32 := broadcastInDim S1x12x16x32x128x64 ![0, 1, 2, 3, 4, 5] bcast_S1x12x1x32x128x1_S1x12x16x32x128x64_0_1_2_3_4_5 v3
  let v6 : FVec F S1x12x16x32x128x64 .f32 := broadcastInDim S1x12x16x32x128x64 ![0, 1, 2, 3, 4, 5] bcast_S1x12x16x1x128x64_S1x12x16x32x128x64_0_1_2_3_4_5 v4
  let v7 : FVec F S1x12x16x32x128x64 .f32 := mulf v5 v6
  let cst : FVec F S_ .f32 := constant S_ .f32 0x00000000#32
  let v8 : FVec F S1x12x16x32x64 .f32 := (fun x v => Host.reduceAdd x v reducesTo_S1x12x16x32x128x64_S1x12x16x32x64_d4 h_S_) v7 cst
  let v9 : FVec F S1x12x512x64 .f32 := shapeCast S1x12x512x64 v8 shapeCasts_S1x12x16x32x64_S1x12x512x64
  v9

/-- The drawn key tokens, block after block. -/
def drawnK (arg1 : FVec F S1x12x2048x64 .f32) : FVec F S1x12x512x64 .f32 :=
  let c_0 : IVec S1x12x1x16 32 := fun i => lit1 (S1x12x1x16.rowMajor i)
  let v10 : FVec F S1x12x32x64x64 .f32 := shapeCast S1x12x32x64x64 arg1 shapeCasts_S1x12x2048x64_S1x12x32x64x64
  let v11 : IVec S12x16 32 := shapeCast S12x16 c_0 shapeCasts_S1x12x1x16_S12x16
  let v12 : FVec F S12x16x64 .f32 := marksK v11
  let v13 : FVec F S1x12x1x16x64x1 .f32 := broadcastInDim S1x12x1x16x64x1 ![1, 3, 4] bcast_S12x16x64_S1x12x1x16x64x1_1_3_4 v12
  let v14 : FVec F S1x12x32x1x64x64 .f32 := broadcastInDim S1x12x32x1x64x64 ![0, 1, 2, 4, 5] bcast_S1x12x32x64x64_S1x12x32x1x64x64_0_1_2_4_5 v10
  let v15 : FVec F S1x12x32x16x64x64 .f32 := broadcastInDim S1x12x32x16x64x64 ![0, 1, 2, 3, 4, 5] bcast_S1x12x1x16x64x1_S1x12x32x16x64x64_0_1_2_3_4_5 v13
  let v16 : FVec F S1x12x32x16x64x64 .f32 := broadcastInDim S1x12x32x16x64x64 ![0, 1, 2, 3, 4, 5] bcast_S1x12x32x1x64x64_S1x12x32x16x64x64_0_1_2_3_4_5 v14
  let v17 : FVec F S1x12x32x16x64x64 .f32 := mulf v15 v16
  let cst_1 : FVec F S_ .f32 := constant S_ .f32 0x00000000#32
  let v18 : FVec F S1x12x32x16x64 .f32 := (fun x v => Host.reduceAdd x v reducesTo_S1x12x32x16x64x64_S1x12x32x16x64_d4 h_S_) v17 cst_1
  let v19 : FVec F S1x12x512x64 .f32 := shapeCast S1x12x512x64 v18 shapeCasts_S1x12x32x16x64_S1x12x512x64
  v19

/-- The attention of the drawn tokens, summed over the tokens of two blocks, over 32. -/
def blockWeights (v9 v19 : FVec F S1x12x512x64 .f32) : FVec F S1x12x16x32 .f32 :=
  let v20 : FVec F S1x12x512x512 .f32 := (fun l r => Host.dotGeneral dot_S1x12x512x64_S1x12x512x64_S1x12x512x512_3_3_2_2_01_01 none l r) v9 v19
  let cst_2 : FVec F S_ .f32 := constant S_ .f32 0x3E000000#32
  let v21 : FVec F S1x12x512x512 .f32 := broadcastInDim S1x12x512x512 ![] bcast_S_S1x12x512x512 cst_2
  let v22 : FVec F S1x12x512x512 .f32 := mulf v20 v21
  let cst_3 : FVec F S_ .f32 := constant S_ .f32 0xFF800000#32
  let v23 : FVec F S1x12x512 .f32 := (fun x v => Host.reduce FloatOps.maximumf x v reducesTo_S1x12x512x512_S1x12x512_d3 h_S_) v22 cst_3
  let cst_4 : FVec F S_ .f32 := constant S_ .f32 0xFF800000#32
  let v24 : FVec F S1x12x512 .f32 := broadcastInDim S1x12x512 ![] bcast_S_S1x12x512 cst_4
  let v25 : FVec F S1x12x512 .f32 := maximumf v24 v23
  let v26 : FVec F S1x12x512x1 .f32 := broadcastInDim S1x12x512x1 ![0, 1, 2] bcast_S1x12x512_S1x12x512x1_0_1_2 v25
  let v27 : FVec F S1x12x512x512 .f32 := broadcastInDim S1x12x512x512 ![0, 1, 2, 3] bcast_S1x12x512x1_S1x12x512x512_0_1_2_3 v26
  let v28 : FVec F S1x12x512x512 .f32 := subf v22 v27
  let v29 : FVec F S1x12x512x512 .f32 := Host.exp v28
  let cst_5 : FVec F S_ .f32 := constant S_ .f32 0x00000000#32
  let v30 : FVec F S1x12x512 .f32 := (fun x v => Host.reduceAdd x v reducesTo_S1x12x512x512_S1x12x512_d3 h_S_) v29 cst_5
  let v31 : FVec F S1x12x512x1 .f32 := broadcastInDim S1x12x512x1 ![0, 1, 2] bcast_S1x12x512_S1x12x512x1_0_1_2 v30
  let v32 : FVec F S1x12x512x512 .f32 := broadcastInDim S1x12x512x512 ![0, 1, 2, 3] bcast_S1x12x512x1_S1x12x512x512_0_1_2_3 v31
  let v33 : FVec F S1x12x512x512 .f32 := Host.divf v29 v32
  let v34 : FVec F S1x12x16x32x32x16 .f32 := shapeCast S1x12x16x32x32x16 v33 shapeCasts_S1x12x512x512_S1x12x16x32x32x16
  let cst_6 : FVec F S_ .f32 := constant S_ .f32 0x00000000#32
  let v35 : FVec F S1x12x16x32x32 .f32 := (fun x v => Host.reduceAdd x v reducesTo_S1x12x16x32x32x16_S1x12x16x32x32_d5 h_S_) v34 cst_6
  let cst_7 : FVec F S_ .f32 := constant S_ .f32 0x00000000#32
  let v36 : FVec F S1x12x16x32 .f32 := (fun x v => Host.reduceAdd x v reducesTo_S1x12x16x32x32_S1x12x16x32_d3 h_S_) v35 cst_7
  let cst_8 : FVec F S_ .f32 := constant S_ .f32 0x42000000#32
  let v37 : FVec F S1x12x16x32 .f32 := broadcastInDim S1x12x16x32 ![] bcast_S_S1x12x16x32 cst_8
  let v38 : FVec F S1x12x16x32 .f32 := Host.divf v36 v37
  v38

/-- Bit `(i, j)`: block `j` stands in front of block `i`. -/
def ahead (v38 : FVec F S1x12x16x32 .f32) : IVec S1x12x16x32x32 1 :=
  let v39 : FVec F S1x12x16x32x1 .f32 := broadcastInDim S1x12x16x32x1 ![0, 1, 2, 3] bcast_S1x12x16x32_S1x12x16x32x1_0_1_2_3 v38
  let v40 : FVec F S1x12x16x1x32 .f32 := broadcastInDim S1x12x16x1x32 ![0, 1, 2, 4] bcast_S1x12x16x32_S1x12x16x1x32_0_1_2_4 v38
  let v41 : IVec S32 32 := iotaInDim S32 32 0
  let v42 : FVec F S1x12x16x32x32 .f32 := broadcastInDim S1x12x16x32x32 ![0, 1, 2, 3, 4] bcast_S1x12x16x1x32_S1x12x16x32x32_0_1_2_3_4 v40
  let v43 : FVec F S1x12x16x32x32 .f32 := broadcastInDim S1x12x16x32x32 ![0, 1, 2, 3, 4] bcast_S1x12x16x32x1_S1x12x16x32x32_0_1_2_3_4 v39
  let v44 : IVec S1x12x16x32x32 1 := cmpf .ogt v42 v43
  let v45 : FVec F S1x12x16x32x32 .f32 := broadcastInDim S1x12x16x32x32 ![0, 1, 2, 3, 4] bcast_S1x12x16x1x32_S1x12x16x32x32_0_1_2_3_4 v40
  let v46 : FVec F S1x12x16x32x32 .f32 := broadcastInDim S1x12x16x32x32 ![0, 1, 2, 3, 4] bcast_S1x12x16x32x1_S1x12x16x32x32_0_1_2_3_4 v39
  let v47 : IVec S1x12x16x32x32 1 := cmpf .oeq v45 v46
  let v48 : IVec S1x32 32 := broadcastInDim S1x32 ![1] bcast_S32_S1x32_1 v41
  let v49 : IVec S32x1 32 := broadcastInDim S32x1 ![0] bcast_S32_S32x1_0 v41
  let v50 : IVec S32x32 32 := broadcastInDim S32x32 ![0, 1] bcast_S1x32_S32x32_0_1 v48
  let v51 : IVec S32x32 32 := broadcastInDim S32x32 ![0, 1] bcast_S32x1_S32x32_0_1 v49
  let v52 : IVec S32x32 1 := cmpi .slt v50 v51
  let v53 : IVec S1x1x1x32x32 1 := broadcastInDim S1x1x1x32x32 ![3, 4] bcast_S32x32_S1x1x1x32x32_3_4 v52
  let v54 : IVec S1x12x16x32x32 1 := broadcastInDim S1x12x16x32x32 ![0, 1, 2, 3, 4] bcast_S1x1x1x32x32_S1x12x16x32x32_0_1_2_3_4 v53
  let v55 : IVec S1x12x16x32x32 1 := andi v47 v54
  let v56 : IVec S1x12x16x32x32 1 := ori v44 v55
  v56

/-- The number of blocks in front of each. -/
def rankOf (v56 : IVec S1x12x16x32x32 1) : IVec S1x12x16x32 32 :=
  let v57 : IVec S1x12x16x32x32 32 := (extui 32 · natLt_1_32) v56
  let c_9 : IVec S_ 32 := constantI S_ 32 0#32
  let v58 : IVec S1x12x16x32 32 := (fun x v => Host.reduce IntOp.addi x v reducesTo_S1x12x16x32x32_S1x12x16x32_d4 h_S_) v57 c_9
  v58

/-- The block of each rank. -/
def orderOf (v58 : IVec S1x12x16x32 32) : IVec S1x12x16x32 32 :=
  let v41 : IVec S32 32 := iotaInDim S32 32 0
  let v59 : IVec S1x12x16x1x32 32 := broadcastInDim S1x12x16x1x32 ![0, 1, 2, 4] bcast_S1x12x16x32_S1x12x16x1x32_0_1_2_4 v58
  let v60 : IVec S32x1 32 := broadcastInDim S32x1 ![0] bcast_S32_S32x1_0 v41
  let v61 : IVec S1x1x1x32x1 32 := broadcastInDim S1x1x1x32x1 ![3, 4] bcast_S32x1_S1x1x1x32x1_3_4 v60
  let v62 : IVec S1x12x16x32x32 32 := broadcastInDim S1x12x16x32x32 ![0, 1, 2, 3, 4] bcast_S1x12x16x1x32_S1x12x16x32x32_0_1_2_3_4 v59
  let v63 : IVec S1x12x16x32x32 32 := broadcastInDim S1x12x16x32x32 ![0, 1, 2, 3, 4] bcast_S1x1x1x32x1_S1x12x16x32x32_0_1_2_3_4 v61
  let v64 : IVec S1x12x16x32x32 1 := cmpi .eq v62 v63
  let v65 : IVec S1x12x16x32x32 32 := (extui 32 · natLt_1_32) v64
  let v66 : IVec S1x32 32 := broadcastInDim S1x32 ![1] bcast_S32_S1x32_1 v41
  let v67 : IVec S1x1x1x1x32 32 := broadcastInDim S1x1x1x1x32 ![3, 4] bcast_S1x32_S1x1x1x1x32_3_4 v66
  let v68 : IVec S1x12x16x32x32 32 := broadcastInDim S1x12x16x32x32 ![0, 1, 2, 3, 4] bcast_S1x1x1x1x32_S1x12x16x32x32_0_1_2_3_4 v67
  let v69 : IVec S1x12x16x32x32 32 := muli v65 v68
  let c_10 : IVec S_ 32 := constantI S_ 32 0#32
  let v70 : IVec S1x12x16x32 32 := (fun x v => Host.reduce IntOp.addi x v reducesTo_S1x12x16x32x32_S1x12x16x32_d4 h_S_) v69 c_10
  v70

/-- The block order of two argument arrays. -/
def order (q k : FVec F S1x12x2048x64 .f32) : IVec S1x12x16x32 32 :=
  orderOf (rankOf (ahead (blockWeights (drawnQ q) (drawnK k))))

/-- The block order that the kernel finds is that function of the arguments. -/
theorem entry_order (m : (ℓ : Loc nD τ sig) → Buf (Elt F) ℓ) (c : Dev nD) :
    V m c main_v71 = shapeCast S12x16x32 (order (m ((c : Thread nD τ).loc main_arg0)) (m ((c : Thread nD τ).loc main_arg1))) shapeCasts_S1x12x16x32_S12x16x32 := by
  simp only [V, hostOps0, hostOps0_1, hostOps0_2, hostOps0_3, hostOps0_4, List.flatten_cons, List.flatten_nil, List.append_nil, List.cons_append, List.nil_append]
  after_reads_simp
  sl_kernel_rfl

/-- The block of the order that a point reads is the whole of it. -/
theorem iblk0 (m : (ℓ : Loc nD τ sig) → Buf (Elt F) ℓ) (c : Dev nD) (t : Fin cfg0.N) (y : S12x16x32.Idx) :
    iblk m c 0 t y = order (m ((c : Thread nD τ).loc main_arg0)) (m ((c : Thread nD τ).loc main_arg1)) (ix4 0 (y 0) (y 1) (y 2)) := by
  have e : iblk m c 0 t = V m c main_v71 := by
    unfold iblk
    generalize V m c = X
    funext z
    blk_ext [idx t]
  rw [e, entry_order]
  refine shapeCast_apply _ _ y (ix4 0 (y 0) (y 1) (y 2)) ?_
  rw [Shape.rowMajor_val_three, Shape.rowMajor_val_four]
  simp

/-- Block numbers in range make the runs of the points fault-free. -/
theorem orderOK (m : (ℓ : Loc nD τ sig) → Buf (Elt F) ℓ)
    (h : ∀ c y, (order (m (((c : Dev nD) : Thread nD τ).loc main_arg0)) (m ((c : Thread nD τ).loc main_arg1)) y).toNat < 32) : OrderOK m := by
  intro c t y
  rw [iblk0]
  exact h c _

section

variable [Cert.Pre_order_in_range.Facts]

theorem pre_eq (q k v : FVec F S1x12x2048x64 .f32) : Cert.Pre_order_in_range.fn (F := F) q k v
    = andi (cmpi .sge (order q k) (fun _ => 0#32)) (cmpi .slt (order q k) (fun _ => 32#32)) := by
  sl_kernel_rfl

/-- The precondition says that each entry of the order is a block number. -/
theorem lt_of_pre (q k v : FVec F S1x12x2048x64 .f32) (h : Cert.Pre_order_in_range.fn (F := F) q k v = fun _ => 1#1) (y : S1x12x16x32.Idx) :
    (order q k y).toNat < 32 := by
  rw [pre_eq] at h
  have e := congrFun h y
  simp only [andi, cmpi, IntOp.cmpi] at e
  generalize order q k y = w at e ⊢
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [andi_ofBool, ofBool_eq_one, Bool.and_eq_true] at e
  obtain ⟨hge, hlt⟩ := e
  simp only [BitVec.sle, BitVec.slt, decide_eq_true_eq, BitVec.toInt, BitVec.toNat_ofNat] at hge hlt
  omega

end

end Cert.KernelIdeal.Attn

end
-- ==== Proof.Rank.lean ====
module

public import proofs.«01_k».proof.Proof.Order
public import Idealize.ShloMosaic.Lib.StableHlo.Predicate
public import Idealize.ShloMosaic.Lib.IndicatorCount

@[expose] public section

set_option maxRecDepth 16384

noncomputable section

namespace Cert.KernelIdeal.Attn

open Cert.KernelIdeal.Gen
open Cert.KernelIdeal.Facts
open Idealize.ShloMosaic Idealize.ShloMosaic.TcCoe Idealize.ShloMosaic.Tactic
open Idealize.SL.Sem
open scoped Classical

/-! ## The rank of a block among 32, by weight and then by number -/

/-- Block `j` stands in front of block `i`: it weighs more, or as much with the smaller number. -/
def Front (p : Fin 32 → EReal) (j i : Fin 32) : Prop := p i < p j ∨ (p j = p i ∧ j < i)

theorem front_trans {p : Fin 32 → EReal} {a b c : Fin 32} (h : Front p a b) (h' : Front p b c) : Front p a c := by
  rcases h with h | ⟨h, g⟩ <;> rcases h' with h' | ⟨h', g'⟩
  · exact Or.inl (h'.trans h)
  · exact Or.inl (h' ▸ h)
  · exact Or.inl (h ▸ h')
  · exact Or.inr ⟨h.trans h', g.trans g'⟩

theorem front_irrefl (p : Fin 32 → EReal) (a : Fin 32) : ¬ Front p a a := by
  rintro (h | ⟨_, h⟩)
  · exact lt_irrefl _ h
  · exact lt_irrefl _ h

theorem front_total (p : Fin 32 → EReal) {a b : Fin 32} (h : a ≠ b) : Front p a b ∨ Front p b a := by
  rcases lt_trichotomy (p a) (p b) with g | g | g
  · exact Or.inr (Or.inl g)
  · rcases lt_or_gt_of_ne h with l | l
    · exact Or.inl (Or.inr ⟨g, l⟩)
    · exact Or.inr (Or.inr ⟨g.symm, l⟩)
  · exact Or.inl (Or.inl g)

/-- The blocks in front of block `i`. -/
def fronts (p : Fin 32 → EReal) (i : Fin 32) : Finset (Fin 32) := Finset.univ.filter fun j => Front p j i

theorem card_fronts_lt {p : Fin 32 → EReal} {a b : Fin 32} (h : Front p a b) : (fronts p a).card < (fronts p b).card := by
  refine Finset.card_lt_card ⟨fun x hx => ?_, fun hs => ?_⟩
  · simp only [fronts, Finset.mem_filter, Finset.mem_univ, true_and] at hx ⊢
    exact front_trans hx h
  · have := hs (show a ∈ fronts p b by simpa [fronts] using h)
    simp only [fronts, Finset.mem_filter, Finset.mem_univ, true_and] at this
    exact front_irrefl p a this

theorem card_fronts_lt32 (p : Fin 32 → EReal) (i : Fin 32) : (fronts p i).card < 32 := by
  have h : (fronts p i).card < (Finset.univ : Finset (Fin 32)).card := by
    refine Finset.card_lt_card ⟨fun _ _ => Finset.mem_univ _, fun hs => ?_⟩
    have := hs (Finset.mem_univ i)
    simp only [fronts, Finset.mem_filter, Finset.mem_univ, true_and] at this
    exact front_irrefl p i this
  simpa using h

/-- The rank of block `i`. -/
def rk (p : Fin 32 → EReal) (i : Fin 32) : Fin 32 := ⟨(fronts p i).card, card_fronts_lt32 p i⟩

theorem rk_lt {p : Fin 32 → EReal} {a b : Fin 32} (h : Front p a b) : rk p a < rk p b := card_fronts_lt h

theorem rk_injective (p : Fin 32 → EReal) : Function.Injective (rk p) := by
  intro a b e
  by_contra h
  rcases front_total p h with g | g
  · exact absurd (rk_lt g) (by rw [e]; exact lt_irrefl _)
  · exact absurd (rk_lt g) (by rw [e]; exact lt_irrefl _)

/-- Blocks and their ranks, one to one. -/
def rkEquiv (p : Fin 32 → EReal) : Fin 32 ≃ Fin 32 := Equiv.ofBijective (rk p) (Finite.injective_iff_bijective.mp (rk_injective p))

/-- The block of rank `r`. -/
def blockAt (p : Fin 32 → EReal) (r : Fin 32) : Fin 32 := (rkEquiv p).symm r

theorem rk_blockAt (p : Fin 32 → EReal) (r : Fin 32) : rk p (blockAt p r) = r := (rkEquiv p).apply_symm_apply r

theorem blockAt_rk (p : Fin 32 → EReal) (i : Fin 32) : blockAt p (rk p i) = i := (rkEquiv p).symm_apply_apply i

theorem rk_eq_iff (p : Fin 32 → EReal) (i r : Fin 32) : rk p i = r ↔ i = blockAt p r := by
  constructor
  · intro h; rw [← h, blockAt_rk]
  · intro h; rw [h, rk_blockAt]

/-! ## The printed ranks and order -/

/-- The weights of the 32 blocks, for one head and one block of queries. -/
def rowOf (w : FVec Ideal S1x12x16x32 .f32) (h : Fin 12) (g : Fin 16) : Fin 32 → EReal := fun j => w (ix4 0 h g j)

theorem ofBool_or (a b : Bool) : IntOp.ori (BitVec.ofBool a) (BitVec.ofBool b) = BitVec.ofBool (a || b) := by
  cases a <;> cases b <;> decide

theorem ofBool_and (a b : Bool) : IntOp.andi (BitVec.ofBool a) (BitVec.ofBool b) = BitVec.ofBool (a && b) := by
  cases a <;> cases b <;> decide

theorem red4 : S1x12x16x32x32.Reduces [4] S1x12x16x32 := by decide

theorem slt_small : ∀ j i : Fin 32, IntOp.cmpi .slt (BitVec.ofNat 32 j.val) (BitVec.ofNat 32 i.val) = BitVec.ofBool (decide (j < i)) := by
  decide +kernel

theorem ahead_apply (w : FVec Ideal S1x12x16x32 .f32) (h : Fin 12) (g : Fin 16) (i j : Fin 32) :
    ahead w (ix5 0 h g i j) = BitVec.ofBool (decide (Front (rowOf w h g) j i)) := by
  have e : ahead w (ix5 0 h g i j) = IntOp.ori (BitVec.ofBool (decide (w (ix4 0 h g i) < w (ix4 0 h g j))))
      (IntOp.andi (BitVec.ofBool (decide (w (ix4 0 h g j) = w (ix4 0 h g i)))) (IntOp.cmpi .slt (BitVec.ofNat 32 j.val) (BitVec.ofNat 32 i.val))) := by
    unfold ahead
    pointwise
  rw [e, show IntOp.cmpi .slt (BitVec.ofNat 32 j.val) (BitVec.ofNat 32 i.val) = BitVec.ofBool (decide (j < i)) by
    exact slt_small j i]
  rw [ofBool_and, ofBool_or]
  congr 1
  rw [Bool.eq_iff_iff]
  simp only [Bool.or_eq_true, Bool.and_eq_true, decide_eq_true_eq, Front, rowOf]
  exact ⟨fun hh => @decide_eq_true _ (Classical.propDecidable _) hh, fun hh => @of_decide_eq_true _ (Classical.propDecidable _) hh⟩

theorem rank_apply (w : FVec Ideal S1x12x16x32 .f32) (h : Fin 12) (g : Fin 16) (i : Fin 32) :
    rankOf (ahead w) (ix4 0 h g i) = BitVec.ofNat 32 (rk (rowOf w h g) i).val := by
  unfold rankOf
  dsimp only
  rw [Host.reduce_eq_fold_single IntOp.addi _ _ _ red4 _ (ix4 0 h g i)]
  have hl : ∀ j : Fin 32, red4.lift (ix4 0 h g i) j = ix5 0 h g i j := by
    intro j
    funext a
    fin_cases a <;> rfl
  have hf : (extui 32 (ahead w) natLt_1_32 ∘ red4.lift (ix4 0 h g i))
      = fun j => (BitVec.ofBool (decide (Front (rowOf w h g) j i))).setWidth 32 := by
    funext j
    exact (congrArg (fun x => (ahead w x).setWidth 32) (hl j)).trans (congrArg (BitVec.setWidth 32) (ahead_apply w h g i j))
  rw [hf]
  refine (IndicatorCount.fold_addi_setWidth_eq_card (w := 32) _ _).trans ?_
  refine congrArg (BitVec.ofNat 32) ?_
  show _ = (fronts (rowOf w h g) i).card
  refine congrArg Finset.card ?_
  ext (j : Fin 32)
  refine Finset.mem_filter.trans (Iff.trans ?_ Finset.mem_filter.symm)
  rw [StableHlo.Predicate.ofBool_eq_one_iff, decide_eq_true_eq]
  exact ⟨fun h => ⟨Finset.mem_univ _, h.2⟩, fun h => ⟨Finset.mem_univ _, h.2⟩⟩

theorem orderOf_apply (R : IVec S1x12x16x32 32) (p : Fin 32 → EReal) (h : Fin 12) (g : Fin 16) (r : Fin 32)
    (hR : ∀ i, R (ix4 0 h g i) = BitVec.ofNat 32 (rk p i).val) :
    orderOf R (ix4 0 h g r) = BitVec.ofNat 32 (blockAt p r).val := by
  unfold orderOf
  dsimp only
  rw [Host.reduce_eq_fold_single IntOp.addi _ _ _ red4 _ (ix4 0 h g r)]
  have hl : ∀ j : Fin 32, red4.lift (ix4 0 h g r) j = ix5 0 h g r j := by
    intro j
    funext a
    fin_cases a <;> rfl
  set X : IVec S1x12x16x32x32 32 := muli _ _ with hX
  have hx : ∀ j : Fin 32, (X (ix5 0 h g r j)).toNat = if j = blockAt p r then j.val else 0 := by
    intro j
    have e : X (ix5 0 h g r j) = (IntOp.cmpi .eq (R (ix4 0 h g j)) (BitVec.ofNat 32 r.val)).setWidth 32 * BitVec.ofNat 32 j.val := by
      rw [hX]
      pointwise
      rfl
    rw [e, hR]
    by_cases hj : j = blockAt p r
    · rw [if_pos hj, hj, rk_blockAt]
      simp [IntOp.cmpi]
      omega
    · rw [if_neg hj]
      have : rk p j ≠ r := fun h => hj ((rk_eq_iff p j r).mp h)
      have : BitVec.ofNat 32 (rk p j).val ≠ BitVec.ofNat 32 r.val := fun h => this (Fin.ext (by
        have := congrArg BitVec.toNat h
        simp only [BitVec.toNat_ofNat] at this
        omega))
      simp only [IntOp.cmpi]
      rw [beq_eq_false_iff_ne.mpr this]
      simp
  have hsum : ∑ j : Fin 32, ((X ∘ red4.lift (ix4 0 h g r)) j).toNat = (blockAt p r).val := by
    simp only [Function.comp, hl, hx]
    rw [Finset.sum_ite_eq' Finset.univ (blockAt p r) (fun j => j.val), if_pos (Finset.mem_univ _)]
  apply BitVec.eq_of_toNat_eq
  refine (StableHlo.Predicate.toNat_fold_addi _ _ ?_).trans ?_
  · exact lt_of_eq_of_lt hsum (by omega)
  · refine hsum.trans ?_
    rw [BitVec.toNat_ofNat]; omega

/-- The weights that the arguments give. -/
def weights (q k : FVec Ideal S1x12x2048x64 .f32) : FVec Ideal S1x12x16x32 .f32 := blockWeights (drawnQ q) (drawnK k)

theorem order_apply (q k : FVec Ideal S1x12x2048x64 .f32) (h : Fin 12) (g : Fin 16) (r : Fin 32) :
    order q k (ix4 0 h g r) = BitVec.ofNat 32 (blockAt (rowOf (weights q k) h g) r).val :=
  orderOf_apply _ _ h g r fun i => rank_apply _ h g i

theorem order_lt (q k : FVec Ideal S1x12x2048x64 .f32) (y : S1x12x16x32.Idx) : (order q k y).toNat < 32 := by
  obtain ⟨a, h, g, r, rfl⟩ : ∃ a h g r, y = ix4 a h g r := ⟨y 0, y 1, y 2, y 3, by funext a; fin_cases a <;> rfl⟩
  obtain rfl : a = 0 := Subsingleton.elim _ _
  rw [order_apply, BitVec.toNat_ofNat]
  omega

/-- Over the reals the block order needs no assumption. -/
theorem orderOK_ideal (m : (ℓ : Loc nD τ sig) → Buf (Elt Ideal) ℓ) : OrderOK m := orderOK m fun _ y => order_lt _ _ y

end Cert.KernelIdeal.Attn

end
-- ==== Proof.Frames.lean ====
module

public import proofs.«01_k».proof.Defs
public import proofs.«01_k».proof.Proof.Rank
public import proofs.«01_k».proof.Proof.Words.Order
public import proofs.«01_k».proof.Proof.Gen.ReferenceIdeal.Run

@[expose] public section

noncomputable section

namespace Cert.Frames

open Idealize.ShloMosaic Idealize.SL.Sem

/-- The side conditions that the precondition's function states. -/
instance preFacts : Cert.Pre_order_in_range.Facts := by
  constructor <;> decide

instance finiteFacts : Cert.Pre_finite.Facts := by
  constructor <;> decide

/-- The kernel on float words, where the block order holds block numbers. -/
theorem frame_p : Cert.quiescent_Kernel := fun m ρ h =>
  Cert.Kernel.Attn.frame m ρ (Cert.Kernel.Attn.orderOK m fun c y => Cert.Kernel.Attn.lt_of_pre _ _ _ (h c) y)

/-- The kernel over the reals, on all arguments. -/
theorem frame_pi : Cert.quiescent_KernelIdeal := fun m ρ _ =>
  Cert.KernelIdeal.Attn.frame m ρ (Cert.KernelIdeal.Attn.orderOK_ideal m)

theorem frame_pi_pre : Cert.quiescent_KernelIdeal_pre_order_in_range := fun m ρ _ =>
  Cert.KernelIdeal.Attn.frame m ρ (Cert.KernelIdeal.Attn.orderOK_ideal m)

theorem frame_pi_finite : Cert.quiescent_KernelIdeal_pre_finite := fun m ρ _ =>
  Cert.KernelIdeal.Attn.frame m ρ (Cert.KernelIdeal.Attn.orderOK_ideal m)

/-- The reference over the reals. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri_finite : Cert.quiescent_ReferenceIdeal_pre_finite := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The three named constants. -/
theorem preserves : Cert.preserves_Kernel_KernelIdeal :=
  ⟨IdealRules.named_const.statement Cert.KernelIdeal.κ "ln8" .f32 0x40051592#32 ((Real.log 8 : ℝ) : EReal) rfl,
    IdealRules.named_const.statement Cert.KernelIdeal.κ "pad" .f32 0xCE6E6B28#32 ⊥ rfl,
    IdealRules.named_const.statement Cert.KernelIdeal.κ "ln2" .f32 0x3F317218#32 ((Real.log 2 : ℝ) : EReal) rfl⟩

end Cert.Frames

end
-- ==== Proof.Softmax.lean ====
module

public import Idealize.ShloMosaic.PureOps.Ideal
public import Mathlib.Data.EReal.Operations
public import Mathlib.Analysis.SpecialFunctions.Log.Basic

@[expose] public section

noncomputable section

namespace Cert.Softmax

open Idealize.ShloMosaic
open Finset

/-! ## Sums of products by nonnegative reals -/

theorem mul_sum_real {ι : Type} (s : Finset ι) (a : ℝ) (ha : 0 ≤ a) (f : ι → EReal) :
    (∑ i ∈ s, f i) * (a : EReal) = ∑ i ∈ s, f i * (a : EReal) := by
  classical
  induction s using Finset.induction_on with
  | empty => simp
  | insert i s hi ih =>
    rw [sum_insert hi, sum_insert hi, ← ih, EReal.right_distrib_of_nonneg_of_ne_top (EReal.coe_nonneg.mpr ha) (EReal.coe_ne_top a)]

/-- `n` copies of a nonnegative weight are one weight, `n` times as large. -/
theorem sum_const_mul (n : ℕ) (a : ℝ) (ha : 0 ≤ a) (v : EReal) :
    n • ((a : EReal) * v) = (((n : ℝ) * a : ℝ) : EReal) * v := by
  induction n with
  | zero => simp
  | succ n ih =>
    rw [succ_nsmul, ih, ← EReal.right_distrib_of_nonneg (EReal.coe_nonneg.mpr (by positivity)) (EReal.coe_nonneg.mpr ha), ← EReal.coe_add]
    congr 2
    push_cast
    ring

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

/-! ## A softmax over columns that stand for several tokens -/

/-- `M` is the greatest of the values of `s`. -/
def IsMax {T : Type} (s : T → EReal) (M : EReal) : Prop := (∀ t, s t ≤ M) ∧ ∃ t, s t = M

theorem isMax_fold {T : Type} [Fintype T] [Nonempty T] (f : T → EReal) : IsMax f (univ.fold max ⊥ f) := by
  rw [show univ.fold max ⊥ f = univ.sup f from rfl]
  refine ⟨fun t => le_sup (mem_univ t), ?_⟩
  obtain ⟨t, _, ht⟩ := exists_mem_eq_sup univ univ_nonempty f
  exact ⟨t, ht.symm⟩

variable {T Y : Type} [Fintype T] [Fintype Y] [DecidableEq Y] (kept : T → Prop) [DecidablePred kept] (c : T → Y) (x : Y → ℝ) (v : Y → EReal)

/-- The tokens that column `y` stands for. -/
def copies (y : Y) : ℕ := (univ.filter fun t => kept t ∧ c t = y).card

/-- A token's score: its column's, or −∞. -/
def score (t : T) : EReal := if kept t then (x (c t) : EReal) else ⊥

/-- A column's score, with the logarithm of the number of its tokens. -/
def colScore (y : Y) : EReal := (x y : EReal) + (if copies kept c y = 0 then ⊥ else ((Real.log (copies kept c y : ℝ) : ℝ) : EReal))

variable {kept c x v}

theorem max_real (h : ∃ t, kept t) {M : EReal} (hM : IsMax (score kept c x) M) : ∃ r : ℝ, M = (r : EReal) := by
  obtain ⟨h1, t, ht⟩ := hM
  obtain ⟨t0, h0⟩ := h
  have hb : ((x (c t0) : ℝ) : EReal) ≤ M := by simpa [score, h0] using h1 t0
  by_cases hk : kept t
  · exact ⟨x (c t), by rw [← ht, score, if_pos hk]⟩
  · rw [score, if_neg hk] at ht
    rw [← ht] at hb
    exact absurd hb (by simp)

theorem colMax_real (h : ∃ t, kept t) {M : EReal} (hM : IsMax (colScore kept c x) M) : ∃ r : ℝ, M = (r : EReal) := by
  obtain ⟨h1, y, hy⟩ := hM
  obtain ⟨t0, h0⟩ := h
  have hn : copies kept c (c t0) ≠ 0 := by
    rw [copies, card_ne_zero]
    exact ⟨t0, by simp [h0]⟩
  have hb := h1 (c t0)
  rw [colScore, if_neg hn, ← EReal.coe_add] at hb
  by_cases hk : copies kept c y = 0
  · rw [colScore, if_pos hk, EReal.add_bot] at hy
    rw [← hy] at hb
    exact absurd hb (by simp)
  · exact ⟨x y + Real.log (copies kept c y), by rw [← hy, colScore, if_neg hk, EReal.coe_add]⟩

theorem exp_score (t : T) (M : ℝ) : Ideal.exp (score kept c x t - (M : EReal)) = ((if kept t then Real.exp (x (c t) - M) else 0 : ℝ) : EReal) := by
  by_cases h : kept t
  · rw [score, if_pos h, if_pos h, ← EReal.coe_sub]; rfl
  · rw [score, if_neg h, if_neg h, EReal.bot_sub]; rfl

theorem exp_colScore (y : Y) (m : ℝ) : Ideal.exp (colScore kept c x y - (m : EReal)) = ((copies kept c y * Real.exp (x y - m) : ℝ) : EReal) := by
  by_cases h : copies kept c y = 0
  · rw [colScore, if_pos h, EReal.add_bot, EReal.bot_sub, h]; simp
  · rw [colScore, if_neg h, ← EReal.coe_add, ← EReal.coe_sub]
    have hp : (0 : ℝ) < copies kept c y := by exact_mod_cast Nat.pos_of_ne_zero h
    show ((Real.exp _ : ℝ) : EReal) = _
    rw [show x y + Real.log (copies kept c y) - m = Real.log (copies kept c y) + (x y - m) by ring, Real.exp_add, Real.exp_log hp]

theorem sum_tokens (f : Y → EReal) : ∑ t : T, (if kept t then f (c t) else 0) = ∑ y : Y, copies kept c y • f y := by
  rw [← sum_filter, ← sum_fiberwise (univ.filter kept) c]
  refine sum_congr rfl fun y _ => ?_
  rw [copies, filter_filter, sum_congr rfl (g := fun _ => f y), sum_const]
  intro t ht
  rw [(mem_filter.mp ht).2.2]

/-- The softmax over columns, each counted with the logarithm of the number of tokens that it stands for, is the softmax over the tokens. -/
theorem softmax_eq (h : ∃ t, kept t) {w : T → EReal} (hw : ∀ t, kept t → w t = v (c t)) {M m : EReal}
    (hM : IsMax (score kept c x) M) (hm : IsMax (colScore kept c x) m) :
    Ideal.div (∑ y, Ideal.exp (colScore kept c x y - m) * v y) (∑ y, Ideal.exp (colScore kept c x y - m))
      = ∑ t, Ideal.div (Ideal.exp (score kept c x t - M)) (∑ t, Ideal.exp (score kept c x t - M)) * w t := by
  obtain ⟨M, rfl⟩ := max_real h hM
  obtain ⟨m, rfl⟩ := colMax_real h hm
  simp only [exp_score, exp_colScore, ← coe_sum]
  set l : ℝ := ∑ y, copies kept c y * Real.exp (x y - m) with hl
  set L : ℝ := ∑ t, (if kept t then Real.exp (x (c t) - M) else 0) with hL
  have hLy : L = ∑ y, copies kept c y * Real.exp (x y - M) := by
    apply EReal.coe_injective
    rw [hL, coe_sum, coe_sum]
    refine Eq.trans (sum_congr rfl fun t _ => ?_) ((sum_tokens (kept := kept) (c := c) fun y => ((Real.exp (x y - M) : ℝ) : EReal)).trans (sum_congr rfl fun y _ => ?_))
    · by_cases hk : kept t <;> simp [hk]
    · have := sum_const_mul (copies kept c y) (Real.exp (x y - M)) (Real.exp_pos _).le 1
      simpa using this
  have hLpos : 0 < L := by
    obtain ⟨t0, h0⟩ := h
    refine sum_pos' (fun t _ => ?_) ⟨t0, mem_univ _, ?_⟩
    · split <;> [exact (Real.exp_pos _).le; exact le_rfl]
    · rw [if_pos h0]; exact Real.exp_pos _
  have hlL : l = Real.exp (M - m) * L := by
    rw [hl, hLy, mul_sum]
    refine sum_congr rfl fun y _ => ?_
    rw [show x y - m = (M - m) + (x y - M) by ring, Real.exp_add]
    ring
  have hlpos : 0 < l := by rw [hlL]; exact mul_pos (Real.exp_pos _) hLpos
  rw [Ideal.div_coe hlpos.ne', mul_sum_real _ _ (by positivity)]
  have e : ∀ t, Ideal.div ((if kept t then Real.exp (x (c t) - M) else 0 : ℝ) : EReal) (L : EReal) * w t
      = if kept t then ((Real.exp (x (c t) - M) * (1 / L) : ℝ) : EReal) * v (c t) else 0 := by
    intro t
    rw [Ideal.div_coe hLpos.ne', ← EReal.coe_mul]
    by_cases hk : kept t
    · rw [if_pos hk, if_pos hk, hw t hk]
    · rw [if_neg hk, if_neg hk]; simp
  rw [sum_congr rfl fun t _ => e t, sum_tokens (kept := kept) (c := c) fun y => ((Real.exp (x y - M) * (1 / L) : ℝ) : EReal) * v y]
  refine sum_congr rfl fun y _ => ?_
  rw [sum_const_mul _ _ (by positivity), mul_right_comm, ← EReal.coe_mul]
  congr 2
  rw [hlL, show x y - m = (M - m) + (x y - M) by ring, Real.exp_add]
  field_simp

end Cert.Softmax

end
-- ==== Proof.Columns.lean ====
module

public import proofs.«01_k».proof.Proof.Rank
public import proofs.«01_k».proof.Proof.Softmax

@[expose] public section

set_option maxRecDepth 16384

noncomputable section

namespace Cert.KernelIdeal.Attn

open Cert.KernelIdeal.Gen
open Cert.KernelIdeal.Facts
open Idealize.ShloMosaic Idealize.ShloMosaic.TcCoe Idealize.ShloMosaic.Tactic
open Idealize.SL.Sem

/-! ## The block of results, entry by entry -/

/-- The products of the queries with the gathered keys, scaled, with the logarithms added. -/
def logits (v199 : Vec Ideal S1x1x128x64 .f32) (v201 : Vec Ideal S384x64 .f32) : FVec Ideal S128x384 .f32 :=
  addf (mulf (matmul (φ₁ := .f32) (φ₂ := .f32) dot_S128x64_S64x384_S128x384_1_0_0_1_n_n none (shapeCast S128x64 v199 shapeCasts_S1x1x128x64_S128x64)
      (transpose S64x384 [1, 0] v201 transposes_S384x64_p1_0_S64x384) (constant S128x384 .f32 0x00000000#32))
    (broadcast S128x384 (Scalar.ofBits .f32 0x3E000000#32)))
    (broadcastTo S128x384
      (select (cmpi .slt (iota .tc S1x384 32 [1] iota_S1x384_d1_w32) (broadcast S1x384 256#32)) (broadcast S1x384 (Scalar.ofBits .f32 0x00000000#32))
        (select (cmpi .slt (iota .tc S1x384 32 [1] iota_S1x384_d1_w32) (broadcast S1x384 288#32)) (broadcast S1x384 (Named.named κ "ln2" 0x3F317218#32))
          (select (cmpi .slt (iota .tc S1x384 32 [1] iota_S1x384_d1_w32) (broadcast S1x384 344#32)) (broadcast S1x384 (Named.named κ "ln8" 0x40051592#32))
            (broadcast S1x384 (Named.named κ "pad" 0xCE6E6B28#32)))))
      broadcasts_S1x384_S128x384)

/-- The greatest logit of each row. -/
def rowMax (L : FVec Ideal S128x384 .f32) : FVec Ideal S128 .f32 :=
  multiReduction .maximumf [1] S128 L 0xFF800000#32 reduces_S128x384_S128 (.inl rfl) rfl

theorem pay237_eq (x1 : Vec Ideal S1x1x128x64 .f32) (K : Vec Ideal S384x64 .f32) :
    k0_pay237 x1 K = exp (subf (logits x1 K) (broadcastTo S128x384 (shapeCast S128x1 (rowMax (logits x1 K)) shapeCasts_S128_S128x1) broadcasts_S128x1_S128x384)) := by
  sl_kernel_rfl

/-- The logarithm that column `y` gets: of the number of tokens that it stands for. -/
def bias (y : Fin 384) : EReal :=
  if y.val < 256 then 0 else if y.val < 288 then ((Real.log 2 : ℝ) : EReal) else if y.val < 344 then ((Real.log 8 : ℝ) : EReal) else ⊥

theorem eighth : (Ideal.ofBits .f32 0x3E000000#32 : EReal) = ((1 / 8 : ℝ) : EReal) := by
  simp [Ideal.ofBits, Ideal.ieee, -EReal.coe_mul]; norm_num

theorem select_ofBool {α : Type} (p : Prop) [Decidable p] (a b : α) : Scalar.select (BitVec.ofBool (decide p)) a b = if p then a else b := by
  by_cases h : p <;> simp [h, Scalar.select]

theorem slt_col (n : ℕ) (hn : n < 2 ^ 31) (y : Fin 384) : IntOp.cmpi .slt (BitVec.ofNat 32 y.val) (BitVec.ofNat 32 n) = BitVec.ofBool (decide (y.val < n)) := by
  have := y.isLt
  simp only [IntOp.cmpi]
  congr 1
  rw [BitVec.slt_eq_decide, BitVec.toInt_eq_toNat_of_lt (by simp; omega), BitVec.toInt_eq_toNat_of_lt (by simp; omega)]
  simp only [BitVec.toNat_ofNat]
  congr 1
  rw [Nat.mod_eq_of_lt (by omega), Nat.mod_eq_of_lt (by omega)]
  simp

theorem logits_apply (x1 : Vec Ideal S1x1x128x64 .f32) (K : Vec Ideal S384x64 .f32) (r : Fin 128) (y : Fin 384) :
    logits x1 K (ix2 r y) = (∑ d : Fin 64, x1 (ix4 0 0 r d) * K (ix2 y d)) * ((1 / 8 : ℝ) : EReal) + bias y := by
  rw [← eighth]
  unfold logits bias
  pointwise
  rw [slt_col 256 (by norm_num), slt_col 288 (by norm_num), slt_col 344 (by norm_num)]
  simp only [select_ofBool]
  rw [show Named.named (F := Ideal) (φ := .f32) κ "ln2" 0x3F317218#32 = ((Real.log 2 : ℝ) : EReal) from IdealRules.named_const.ideal_named_scalar _ _ _ _ rfl, show Named.named (F := Ideal) (φ := .f32) κ "ln8" 0x40051592#32 = ((Real.log 8 : ℝ) : EReal) from IdealRules.named_const.ideal_named_scalar _ _ _ _ rfl,
    show Named.named (F := Ideal) (φ := .f32) κ "pad" 0xCE6E6B28#32 = ⊥ from IdealRules.named_const.ideal_named_scalar _ _ _ _ rfl]

theorem rowMax_apply (L : FVec Ideal S128x384 .f32) (r : Fin 128) : Softmax.IsMax (fun y : Fin 384 => L (ix2 r y)) (rowMax L (ix1 r)) := by
  have h : S128x384.Reduces [1] S128 := by decide
  have hl : ∀ y : Fin 384, h.lift (ix1 r) y = ix2 r y := by
    intro y
    funext a
    fin_cases a <;> rfl
  have e : rowMax L (ix1 r) = (Finset.univ : Finset (Fin 384)).fold max ⊥ (fun y => L (ix2 r y)) := by
    refine (Ideal.multiReduction_maximumf_single L _ h _ _ (ix1 r)).trans ?_
    rw [show (FloatOps.ofBits (F := Ideal) .f32 0xFF800000#32) = (⊥ : EReal) by simp [Ideal.ofBits, Ideal.ieee]]
    exact congrArg (Finset.fold max ⊥ · Finset.univ) (funext fun y => congrArg L (hl y))
  rw [e]
  exact Softmax.isMax_fold _

theorem out_apply (K V : Vec Ideal S384x64 .f32) (x1 : Vec Ideal S1x1x128x64 .f32) (r : Fin 128) (d : Fin 64) :
    k0_pay1 V (k0_pay237 x1 K) (ix4 0 0 r d)
      = Ideal.div (∑ y : Fin 384, Ideal.exp (logits x1 K (ix2 r y) - rowMax (logits x1 K) (ix1 r)) * V (ix2 y d))
          (∑ y : Fin 384, Ideal.exp (logits x1 K (ix2 r y) - rowMax (logits x1 K) (ix1 r))) := by
  rw [pay237_eq]
  generalize logits x1 K = L
  generalize hM : rowMax L = M
  unfold k0_pay1
  pointwise

/-! ## The pooled rows -/

theorem half : (Ideal.ofBits .f32 0x3F000000#32 : EReal) = ((1 / 2 : ℝ) : EReal) := by
  simp [Ideal.ofBits, Ideal.ieee, -EReal.coe_mul]; norm_num

theorem by_two : ∀ (p : Fin 40) (j : Fin 64),
    (IntOp.cmpi .eq (Scalar.select (IntOp.andi (IntOp.cmpi .ne
        (IntOp.subi (BitVec.setWidth 32 (IntOp.cmpi .sgt (BitVec.ofNat 32 j.val) 0#32)) (BitVec.setWidth 32 (IntOp.cmpi .slt (BitVec.ofNat 32 j.val) 0#32)))
        (Scalar.subi (Scalar.extui (Scalar.cmpi .sgt 2#32 0#32)) (Scalar.extui (Scalar.cmpi .slt 2#32 0#32))))
        (IntOp.cmpi .ne (IntOp.remsi .vector (BitVec.ofNat 32 j.val) 2#32) 0#32))
      (IntOp.subi (IntOp.divsi .vector (BitVec.ofNat 32 j.val) 2#32) 1#32) (IntOp.divsi .vector (BitVec.ofNat 32 j.val) 2#32)) (BitVec.ofNat 32 p.val))
      = BitVec.ofBool (decide (j.val / 2 = p.val)) := by
  decide +kernel

theorem by_eight : ∀ (p : Fin 40) (j : Fin 64),
    (IntOp.cmpi .eq (Scalar.select (IntOp.andi (IntOp.cmpi .ne
        (IntOp.subi (BitVec.setWidth 32 (IntOp.cmpi .sgt (BitVec.ofNat 32 j.val) 0#32)) (BitVec.setWidth 32 (IntOp.cmpi .slt (BitVec.ofNat 32 j.val) 0#32)))
        (Scalar.subi (Scalar.extui (Scalar.cmpi .sgt 8#32 0#32)) (Scalar.extui (Scalar.cmpi .slt 8#32 0#32))))
        (IntOp.cmpi .ne (IntOp.remsi .vector (BitVec.ofNat 32 j.val) 8#32) 0#32))
      (IntOp.subi (IntOp.divsi .vector (BitVec.ofNat 32 j.val) 8#32) 1#32) (IntOp.divsi .vector (BitVec.ofNat 32 j.val) 8#32)) (IntOp.subi (BitVec.ofNat 32 p.val) 32#32))
      = BitVec.ofBool (decide (32 + j.val / 8 = p.val)) := by
  decide +kernel

theorem slt_row : ∀ p : Fin 40, IntOp.cmpi .slt (BitVec.ofNat 32 p.val) 32#32 = BitVec.ofBool (decide (p.val < 32)) := by
  decide +kernel

theorem pmat_apply (p : Fin 40) (j : Fin 64) : pmat (F := Ideal) (ix2 p j)
    = if p.val < 32 then (if j.val / 2 = p.val then ((1 / 2 : ℝ) : EReal) else 0) else (if 32 + j.val / 8 = p.val then ((1 / 8 : ℝ) : EReal) else 0) := by
  rw [← half, ← eighth]
  unfold pmat k0_pay6 k0_pay2 k0_pay3 k0_pay4 k0_pay5
  pointwise
  rw [by_two, by_eight, slt_row]
  simp only [select_ofBool]

theorem pool_sum (x : Vec Ideal S1x1x2048x64 .f32) (o : ℕ) (p : Fin 40) (d : Fin 64) :
    pool x o (ix2 p d) = ∑ j : Fin 64, pmat (F := Ideal) (ix2 p j) * rows x o (ix4 0 0 j d) := by
  unfold pool k0_pay13
  pointwise

theorem sum_group (n : ℕ) (hn : 0 < n) (p : ℕ) (hp : n * p + n ≤ 64) (a : ℝ) (ha : 0 ≤ a) (f : Fin 64 → EReal) :
    ∑ j : Fin 64, (if j.val / n = p then (a : EReal) else 0) * f j = (∑ i : Fin n, f ⟨n * p + i.val, by omega⟩) * (a : EReal) := by
  rw [Softmax.mul_sum_real _ _ ha]
  simp only [ite_mul, zero_mul]
  rw [← Finset.sum_filter]
  symm
  refine Finset.sum_bij (fun i _ => ⟨n * p + i.val, by omega⟩) (fun i _ => ?_) (fun i _ i' _ h => ?_) (fun j hj => ?_) (fun i _ => mul_comm _ _)
  · simp only [Finset.mem_filter, Finset.mem_univ, true_and]
    rw [Nat.mul_add_div hn, Nat.div_eq_of_lt i.isLt, add_zero]
  · simp only [Fin.mk.injEq] at h
    exact Fin.ext (by omega)
  · simp only [Finset.mem_filter, Finset.mem_univ, true_and] at hj
    refine ⟨⟨j.val % n, Nat.mod_lt _ hn⟩, Finset.mem_univ _, Fin.ext ?_⟩
    simp only
    rw [← hj]
    exact Nat.div_add_mod _ _

/-- A row pooled by two is the mean of its two rows. -/
theorem pool_two (x : Vec Ideal S1x1x2048x64 .f32) (b : Fin 32) (p : Fin 32) (d : Fin 64) :
    pool x (64 * b.val) (ix2 ⟨p.val, by omega⟩ d)
      = (∑ i : Fin 2, x (ix4 0 0 ⟨64 * b.val + 2 * p.val + i.val, by omega⟩ d)) * ((1 / 2 : ℝ) : EReal) := by
  rw [pool_sum]
  simp only [pmat_apply]
  rw [Finset.sum_congr rfl fun j _ => by rw [if_pos (show (⟨p.val, by omega⟩ : Fin 40).val < 32 from p.isLt)]]
  rw [sum_group 2 (by norm_num) p.val (by omega) _ (by norm_num)]
  congr 1
  refine Finset.sum_congr rfl fun i _ => ?_
  refine congrArg x ?_
  funext a
  fin_cases a
  · rfl
  · rfl
  · refine Fin.ext ?_
    show min (64 * b.val + (2 * p.val + i.val)) 2047 = 64 * b.val + 2 * p.val + i.val
    omega
  · rfl

/-- A row pooled by eight is the mean of its eight rows. -/
theorem pool_eight (x : Vec Ideal S1x1x2048x64 .f32) (b : Fin 32) (p : Fin 8) (d : Fin 64) :
    pool x (64 * b.val) (ix2 ⟨32 + p.val, by omega⟩ d)
      = (∑ i : Fin 8, x (ix4 0 0 ⟨64 * b.val + 8 * p.val + i.val, by omega⟩ d)) * ((1 / 8 : ℝ) : EReal) := by
  rw [pool_sum]
  simp only [pmat_apply]
  rw [Finset.sum_congr rfl fun j _ => by rw [if_neg (show ¬ (⟨32 + p.val, by omega⟩ : Fin 40).val < 32 from by simp)]]
  simp only [Nat.add_left_cancel_iff]
  rw [sum_group 8 (by norm_num) p.val (by omega) _ (by norm_num)]
  congr 1
  refine Finset.sum_congr rfl fun i _ => ?_
  refine congrArg x ?_
  funext a
  fin_cases a
  · rfl
  · rfl
  · refine Fin.ext ?_
    show min (64 * b.val + (8 * p.val + i.val)) 2047 = 64 * b.val + 8 * p.val + i.val
    omega
  · rfl

end Cert.KernelIdeal.Attn
end
-- ==== Proof.Ref.Tokens.lean ====
module

public import proofs.«01_k».proof.Proof.Softmax
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Attn

open Cert.ReferenceIdeal Cert.ReferenceIdeal.Gen Cert.ReferenceIdeal.Facts
open Idealize.ShloMosaic Idealize.ShloMosaic.TcCoe Idealize.ShloMosaic.Tactic Idealize.ShloMosaic.StableHlo
open Idealize.SL.Sem

/-- The keys or values, averaged over 1, 2, 4 and 8 rows, each average repeated at the rows that it is of. -/
def stack (X : FVec Ideal S1x12x2048x64 .f32) : FVec Ideal S4x1x12x2048x64 .f32 :=
  (concatenate S4x1x12x2048x64 0 [⟨S1x1x12x2048x64, ((broadcastInDim S1x1x12x2048x64 ![1, 2, 3, 4] bcast_S1x12x2048x64_S1x1x12x2048x64_1_2_3_4 (shapeCast _ (broadcastInDim S1x12x2048x1x64 ![0, 1, 2, 4] bcast_S1x12x2048x64_S1x12x2048x1x64_0_1_2_4 (Host.divf (Host.reduceAdd (shapeCast _ X shapeCasts_S1x12x2048x64_S1x12x2048x1x64) (constant S_ .f32 0x00000000#32) reducesTo_S1x12x2048x1x64_S1x12x2048x64_d3 h_S_) (broadcastInDim S1x12x2048x64 ![] bcast_S_S1x12x2048x64 (constant S_ .f32 0x3F800000#32)))) shapeCasts_S1x12x2048x1x64_S1x12x2048x64)) : (⟨S1x1x12x2048x64, .f32⟩ : BufTy).Contents (Elt Ideal))⟩, ⟨S1x1x12x2048x64, ((broadcastInDim S1x1x12x2048x64 ![1, 2, 3, 4] bcast_S1x12x2048x64_S1x1x12x2048x64_1_2_3_4 (shapeCast _ (broadcastInDim S1x12x1024x2x64 ![0, 1, 2, 4] bcast_S1x12x1024x64_S1x12x1024x2x64_0_1_2_4 (Host.divf (Host.reduceAdd (shapeCast _ X shapeCasts_S1x12x2048x64_S1x12x1024x2x64) (constant S_ .f32 0x00000000#32) reducesTo_S1x12x1024x2x64_S1x12x1024x64_d3 h_S_) (broadcastInDim S1x12x1024x64 ![] bcast_S_S1x12x1024x64 (constant S_ .f32 0x40000000#32)))) shapeCasts_S1x12x1024x2x64_S1x12x2048x64)) : (⟨S1x1x12x2048x64, .f32⟩ : BufTy).Contents (Elt Ideal))⟩, ⟨S1x1x12x2048x64, ((broadcastInDim S1x1x12x2048x64 ![1, 2, 3, 4] bcast_S1x12x2048x64_S1x1x12x2048x64_1_2_3_4 (shapeCast _ (broadcastInDim S1x12x512x4x64 ![0, 1, 2, 4] bcast_S1x12x512x64_S1x12x512x4x64_0_1_2_4 (Host.divf (Host.reduceAdd (shapeCast _ X shapeCasts_S1x12x2048x64_S1x12x512x4x64) (constant S_ .f32 0x00000000#32) reducesTo_S1x12x512x4x64_S1x12x512x64_d3 h_S_) (broadcastInDim S1x12x512x64 ![] bcast_S_S1x12x512x64 (constant S_ .f32 0x40800000#32)))) shapeCasts_S1x12x512x4x64_S1x12x2048x64)) : (⟨S1x1x12x2048x64, .f32⟩ : BufTy).Contents (Elt Ideal))⟩, ⟨S1x1x12x2048x64, ((broadcastInDim S1x1x12x2048x64 ![1, 2, 3, 4] bcast_S1x12x2048x64_S1x1x12x2048x64_1_2_3_4 (shapeCast _ (broadcastInDim S1x12x256x8x64 ![0, 1, 2, 4] bcast_S1x12x256x64_S1x12x256x8x64_0_1_2_4 (Host.divf (Host.reduceAdd (shapeCast _ X shapeCasts_S1x12x2048x64_S1x12x256x8x64) (constant S_ .f32 0x00000000#32) reducesTo_S1x12x256x8x64_S1x12x256x64_d3 h_S_) (broadcastInDim S1x12x256x64 ![] bcast_S_S1x12x256x64 (constant S_ .f32 0x41000000#32)))) shapeCasts_S1x12x256x8x64_S1x12x2048x64)) : (⟨S1x1x12x2048x64, .f32⟩ : BufTy).Contents (Elt Ideal))⟩] concatenates_S1x1x12x2048x64_S1x1x12x2048x64_S1x1x12x2048x64_S1x1x12x2048x64_S4x1x12x2048x64_d0 : (⟨S4x1x12x2048x64, .f32⟩ : BufTy).Contents (Elt Ideal))

/-- Which of the four averages each token takes, from the levels of the blocks. -/
def picks (lev : IVec S1x12x16x32 32) : FVec Ideal S1x12x16x2048x4 .f32 :=
  uitofp .f32 (cmpi .eq (broadcastInDim S1x12x16x2048x4 ![0, 1, 2, 3, 4] bcast_S1x12x16x2048x1_S1x12x16x2048x4_0_1_2_3_4 (id (broadcastInDim S1x12x16x2048x1 ![0, 1, 2, 3] bcast_S1x12x16x2048_S1x12x16x2048x1_0_1_2_3 (shapeCast _ (broadcastInDim S1x12x16x32x64 ![0, 1, 2, 3] bcast_S1x12x16x32_S1x12x16x32x64_0_1_2_3 (addi (addi (select (cmpi .eq lev (broadcastInDim S1x12x16x32 ![] bcast_S_S1x12x16x32 (constantI S_ 32 2#32))) (broadcastInDim S1x12x16x32 ![] bcast_S_S1x12x16x32 (constantI S_ 32 1#32)) (broadcastInDim S1x12x16x32 ![] bcast_S_S1x12x16x32 (constantI S_ 32 0#32))) (select (cmpi .eq lev (broadcastInDim S1x12x16x32 ![] bcast_S_S1x12x16x32 (constantI S_ 32 4#32))) (broadcastInDim S1x12x16x32 ![] bcast_S_S1x12x16x32 (constantI S_ 32 2#32)) (broadcastInDim S1x12x16x32 ![] bcast_S_S1x12x16x32 (constantI S_ 32 0#32)))) (select (cmpi .eq lev (broadcastInDim S1x12x16x32 ![] bcast_S_S1x12x16x32 (constantI S_ 32 8#32))) (broadcastInDim S1x12x16x32 ![] bcast_S_S1x12x16x32 (constantI S_ 32 3#32)) (broadcastInDim S1x12x16x32 ![] bcast_S_S1x12x16x32 (constantI S_ 32 0#32))))) shapeCasts_S1x12x16x32x64_S1x12x16x2048)))) (broadcastInDim S1x12x16x2048x4 ![0, 1, 2, 3, 4] bcast_S1x1x1x1x4_S1x12x16x2048x4_0_1_2_3_4 (iotaInDim S1x1x1x1x4 32 4)))

/-- The masked scores of the queries against the averaged keys. -/
def scores (lev : IVec S1x12x16x32 32) (q k : FVec Ideal S1x12x2048x64 .f32) : FVec Ideal S1x12x16x128x2048 .f32 :=
  select (broadcastInDim S1x12x16x128x2048 ![0, 1, 2, 3, 4] bcast_S1x12x16x1x2048_S1x12x16x128x2048_0_1_2_3_4 (broadcastInDim S1x12x16x1x2048 ![0, 1, 2, 4] bcast_S1x12x16x2048_S1x12x16x1x2048_0_1_2_4 (shapeCast _ (broadcastInDim S1x12x16x32x64 ![0, 1, 2, 3] bcast_S1x12x16x32_S1x12x16x32x64_0_1_2_3 (cmpi .sgt lev (broadcastInDim S1x12x16x32 ![] bcast_S_S1x12x16x32 (constantI S_ 32 0#32)))) shapeCasts_S1x12x16x32x64_S1x12x16x2048))) (mulf (Host.dotGeneral dot_S1x12x16x128x64_S1x12x16x2048x64_S1x12x16x128x2048_4_4_3_3_012_012 none (shapeCast _ q shapeCasts_S1x12x2048x64_S1x12x16x128x64) (transpose S1x12x16x2048x64 [0, 1, 3, 2, 4] (Host.dotGeneral dot_S1x12x16x2048x4_S4x1x12x2048x64_S1x12x2048x16x64_4_0_2_4_013_123 none (picks lev) (stack k)) transposes_S1x12x2048x16x64_S1x12x16x2048x64_0_1_3_2_4)) (broadcastInDim S1x12x16x128x2048 ![] bcast_S_S1x12x16x128x2048 (constant S_ .f32 0x3E000000#32))) (broadcastInDim S1x12x16x128x2048 ![] bcast_S_S1x12x16x128x2048 (id (constant S_ .f32 0xFF800000#32)))

/-- The average that each token takes. -/
def effective (W : FVec Ideal S1x12x16x2048x4 .f32) (X : FVec Ideal S4x1x12x2048x64 .f32) : FVec Ideal S1x12x16x2048x64 .f32 :=
  transpose S1x12x16x2048x64 [0, 1, 3, 2, 4] (Host.dotGeneral (φ₁ := .f32) (φ₂ := .f32) dot_S1x12x16x2048x4_S4x1x12x2048x64_S1x12x2048x16x64_4_0_2_4_013_123 none W X) transposes_S1x12x2048x16x64_S1x12x16x2048x64_0_1_3_2_4

theorem effective_apply (W : FVec Ideal S1x12x16x2048x4 .f32) (X : FVec Ideal S4x1x12x2048x64 .f32) (h : Fin 12) (g : Fin 16) (t : Fin 2048) (d : Fin 64) :
    effective W X (ix5 0 h g t d) = ∑ p : Fin 4, W (ix5 0 h g t p) * X (ix5 p 0 h t d) := by
  unfold effective
  pointwise

/-- The average that a block of level `w` takes. -/
def pickOf (w : BitVec 32) : BitVec 32 :=
  IntOp.addi (IntOp.addi (Scalar.select (IntOp.cmpi .eq w 2#32) 1#32 0#32) (Scalar.select (IntOp.cmpi .eq w 4#32) 2#32 0#32))
    (Scalar.select (IntOp.cmpi .eq w 8#32) 3#32 0#32)

theorem picks_apply (lev : IVec S1x12x16x32 32) (h : Fin 12) (g : Fin 16) (t : Fin 2048) (p : Fin 4) :
    picks lev (ix5 0 h g t p) = FloatOps.uitofp .f32 (IntOp.cmpi .eq (pickOf (lev (ix4 0 h g ⟨t.val / 64, by omega⟩))) (BitVec.ofNat 32 p.val)) := by
  unfold picks pickOf
  simp only [id_eq]
  pointwise

theorem stack_zero (X : FVec Ideal S1x12x2048x64 .f32) (h : Fin 12) (t : Fin 2048) (d : Fin 64) :
    stack X (ix5 0 0 h t d) = X (ix4 0 h t d) := by
  have e : stack X (ix5 0 0 h t d) = Ideal.div (X (ix4 0 h t d)) 1 := by
    unfold stack
    pointwise
    rw [Fin.sum_univ_one]
  rw [e, ← EReal.coe_one, Ideal.div_coe one_ne_zero]
  simp

theorem stack_one (X : FVec Ideal S1x12x2048x64 .f32) (h : Fin 12) (t : Fin 2048) (d : Fin 64) :
    stack X (ix5 1 0 h t d) = (∑ i : Fin 2, X (ix4 0 h ⟨t.val / 2 * 2 + i.val, by omega⟩ d)) * ((1 / 2 : ℝ) : EReal) := by
  rw [← Ideal.div_coe two_ne_zero, show ((2 : ℝ) : EReal) = Ideal.ofBits .f32 0x40000000#32 by simp [Ideal.ofBits, Ideal.ieee, -EReal.coe_mul]; norm_num]
  unfold stack
  pointwise

theorem stack_three (X : FVec Ideal S1x12x2048x64 .f32) (h : Fin 12) (t : Fin 2048) (d : Fin 64) :
    stack X (ix5 3 0 h t d) = (∑ i : Fin 8, X (ix4 0 h ⟨t.val / 8 * 8 + i.val, by omega⟩ d)) * ((1 / 8 : ℝ) : EReal) := by
  rw [← Ideal.div_coe (by norm_num : (8 : ℝ) ≠ 0), show ((8 : ℝ) : EReal) = Ideal.ofBits .f32 0x41000000#32 by simp [Ideal.ofBits, Ideal.ieee, -EReal.coe_mul]; norm_num]
  unfold stack
  pointwise

/-- The level of the block of rank `n`: 1 for the first four, 2 for the fifth, 8 for seven more, and 0 for the blocks left out. -/
def levelOf (n : Fin 32) : BitVec 32 := if n.val < 4 then 1#32 else if n.val = 4 then 2#32 else if n.val < 12 then 8#32 else 0#32

/-- The keys or values at a token of a block of rank `n`, averaged as that rank has it. -/
def averaged (n : Fin 32) (X : FVec Ideal S1x12x2048x64 .f32) (h : Fin 12) (t : Fin 2048) (d : Fin 64) : EReal :=
  if n.val < 4 then X (ix4 0 h t d)
  else if n.val = 4 then (∑ i : Fin 2, X (ix4 0 h ⟨t.val / 2 * 2 + i.val, by omega⟩ d)) * ((1 / 2 : ℝ) : EReal)
  else if n.val < 12 then (∑ i : Fin 8, X (ix4 0 h ⟨t.val / 8 * 8 + i.val, by omega⟩ d)) * ((1 / 8 : ℝ) : EReal)
  else X (ix4 0 h t d)

theorem picks_eq : ∀ (n : Fin 32) (p : Fin 4), IntOp.cmpi .eq (pickOf (levelOf n)) (BitVec.ofNat 32 p.val)
    = BitVec.ofBool (decide (p.val = if n.val < 4 then 0 else if n.val = 4 then 1 else if n.val < 12 then 3 else 0)) := by
  decide +kernel

theorem keeps_eq : ∀ n : Fin 32, IntOp.cmpi .sgt (levelOf n) 0#32 = BitVec.ofBool (decide (n.val < 12)) := by
  decide +kernel

theorem uitofp_bit (b : Bool) : (FloatOps.uitofp (F := Ideal) .f32 (BitVec.ofBool b) : EReal) = if b then 1 else 0 := by
  cases b
  · show (((BitVec.ofBool false).toNat : ℝ) : EReal) = _; simp
  · show (((BitVec.ofBool true).toNat : ℝ) : EReal) = _; simp

theorem sum_pick (a : ℕ) (ha : a < 4) (W : Fin 4 → EReal) (hW : ∀ p, W p = if p.val = a then 1 else 0) (f : Fin 4 → EReal) :
    ∑ p, W p * f p = f ⟨a, ha⟩ := by
  rw [Finset.sum_eq_single ⟨a, ha⟩]
  · rw [hW, if_pos rfl, one_mul]
  · intro p _ hp
    rw [hW, if_neg (fun e => hp (Fin.ext e)), zero_mul]
  · intro hh; exact absurd (Finset.mem_univ _) hh

theorem effective_of_level (lev : IVec S1x12x16x32 32) (X : FVec Ideal S1x12x2048x64 .f32) (h : Fin 12) (g : Fin 16) (t : Fin 2048) (d : Fin 64) (n : Fin 32)
    (hl : lev (ix4 0 h g ⟨t.val / 64, by omega⟩) = levelOf n) :
    effective (picks lev) (stack X) (ix5 0 h g t d) = averaged n X h t d := by
  rw [effective_apply]
  have hW : ∀ p : Fin 4, picks lev (ix5 0 h g t p) = if p.val = (if n.val < 4 then 0 else if n.val = 4 then 1 else if n.val < 12 then 3 else 0) then 1 else 0 := by
    intro p
    rw [picks_apply, hl, picks_eq, uitofp_bit]
    simp only [decide_eq_true_eq]
  rw [sum_pick _ (by split_ifs <;> norm_num) _ hW fun p => stack X (ix5 p 0 h t d)]
  unfold averaged
  by_cases h4 : n.val < 4
  · simp only [if_pos h4]; exact stack_zero X h t d
  · simp only [if_neg h4]
    by_cases h5 : n.val = 4
    · simp only [if_pos h5]; exact stack_one X h t d
    · simp only [if_neg h5]
      by_cases h12 : n.val < 12
      · simp only [if_pos h12]; exact stack_three X h t d
      · simp only [if_neg h12]; exact stack_zero X h t d

theorem scores_apply (lev : IVec S1x12x16x32 32) (q k : FVec Ideal S1x12x2048x64 .f32) (h : Fin 12) (g : Fin 16) (r : Fin 128) (t : Fin 2048) (n : Fin 32)
    (hl : lev (ix4 0 h g ⟨t.val / 64, by omega⟩) = levelOf n) :
    scores lev q k (ix5 0 h g r t)
      = if n.val < 12 then (∑ d : Fin 64, q (ix4 0 h ⟨g.val * 128 + r.val, by omega⟩ d) * averaged n k h t d) * ((1 / 8 : ℝ) : EReal) else ⊥ := by
  simp only [← effective_of_level lev k h g t _ n hl]
  rw [← show (Ideal.ofBits .f32 0x3E000000#32 : EReal) = ((1 / 8 : ℝ) : EReal) by simp [Ideal.ofBits, Ideal.ieee, -EReal.coe_mul]; norm_num]
  unfold scores
  rw [show (transpose S1x12x16x2048x64 [0, 1, 3, 2, 4] (Host.dotGeneral (φ₁ := .f32) (φ₂ := .f32) dot_S1x12x16x2048x4_S4x1x12x2048x64_S1x12x2048x16x64_4_0_2_4_013_123 none (picks lev) (stack k)) transposes_S1x12x2048x16x64_S1x12x16x2048x64_0_1_3_2_4) = effective (picks lev) (stack k) from rfl]
  generalize effective (picks lev) (stack k) = E
  simp only [id_eq]
  pointwise
  rw [hl, keeps_eq]
  by_cases hn : n.val < 12 <;> simp [hn, Scalar.select, Ideal.ofBits, Ideal.ieee]

end Cert.ReferenceIdeal.Attn
end
-- ==== Proof.Tokens.lean ====
module

public import proofs.«01_k».proof.Proof.Columns
public import proofs.«01_k».proof.Proof.Whole
public import proofs.«01_k».proof.Proof.Rank
public import proofs.«01_k».proof.Proof.Ref.Tokens

@[expose] public section

set_option maxRecDepth 16384

noncomputable section

namespace Cert.KernelIdeal.Attn

open Cert.KernelIdeal.Gen
open Cert.KernelIdeal.Facts
open Idealize.ShloMosaic Idealize.ShloMosaic.TcCoe Idealize.ShloMosaic.Tactic
open Idealize.SL.Sem
open Cert.ReferenceIdeal.Attn (averaged)

/-! ## The gathered columns and the tokens that they stand for

The twelve blocks of least rank are gathered: the first four row by row, the fifth by pairs of rows, the
other seven by eights of rows. -/

variable (p : Fin 32 → EReal)

/-- The rank of the block of a token. -/
def rho (t : Fin 2048) : Fin 32 := rk p ⟨t.val / 64, by omega⟩

/-- The token's block is gathered. -/
def kept (t : Fin 2048) : Prop := (rho p t).val < 12

instance : DecidablePred (kept p) := fun t => Nat.decLt _ _

/-- The column that stands for a token. -/
def col (t : Fin 2048) : Fin 384 :=
  if h4 : (rho p t).val < 4 then ⟨64 * (rho p t).val + t.val % 64, by omega⟩
  else if h5 : (rho p t).val = 4 then ⟨256 + t.val % 64 / 2, by omega⟩
  else if h12 : (rho p t).val < 12 then ⟨288 + 8 * ((rho p t).val - 5) + t.val % 64 / 8, by omega⟩
  else ⟨383, by omega⟩

theorem rho_eq_iff (t : Fin 2048) (r : Fin 32) : rho p t = r ↔ t.val / 64 = (blockAt p r).val := by
  unfold rho
  rw [rk_eq_iff, Fin.ext_iff]

theorem blockAt_rho (t : Fin 2048) : (blockAt p (rho p t)).val = t.val / 64 := ((rho_eq_iff p t _).mp rfl).symm

/-- The tokens of one group of `n` rows. -/
theorem card_group (b : Fin 32) (n j : ℕ) (hn : 0 < n) (hj : n * j + n ≤ 64) :
    (Finset.univ.filter fun t : Fin 2048 => t.val / 64 = b.val ∧ t.val % 64 / n = j).card = n := by
  have e : (Finset.univ.filter fun t : Fin 2048 => t.val / 64 = b.val ∧ t.val % 64 / n = j)
      = Finset.univ.image (fun i : Fin n => (⟨64 * b.val + (n * j + i.val), by omega⟩ : Fin 2048)) := by
    ext t
    simp only [Finset.mem_filter, Finset.mem_univ, true_and, Finset.mem_image]
    constructor
    · rintro ⟨h1, h2⟩
      have h3 := Nat.div_add_mod (t.val % 64) n
      rw [h2] at h3
      exact ⟨⟨t.val % 64 % n, Nat.mod_lt _ hn⟩, Fin.ext (by simp only; omega)⟩
    · rintro ⟨i, rfl⟩
      have h1 : (64 * b.val + (n * j + i.val)) % 64 = n * j + i.val := by omega
      refine ⟨by simp only; omega, ?_⟩
      simp only [h1]
      rw [Nat.mul_add_div hn, Nat.div_eq_of_lt i.isLt, Nat.add_zero]
  rw [e, Finset.card_image_of_injective, Finset.card_univ, Fintype.card_fin]
  intro i i' h
  have := congrArg Fin.val h
  simp only at this
  exact Fin.ext (by omega)

theorem copies_of (y : Fin 384) (r : Fin 32) (n j : ℕ) (hn : 0 < n) (hj : n * j + n ≤ 64)
    (h : ∀ t, (kept p t ∧ col p t = y) ↔ (rho p t).val = r.val ∧ t.val % 64 / n = j) : Softmax.copies (kept p) (col p) y = n := by
  unfold Softmax.copies
  rw [← card_group (blockAt p r) n j hn hj]
  congr 1
  refine Finset.filter_congr fun t _ => ?_
  rw [h t, ← rho_eq_iff p t r, Fin.ext_iff]

theorem copies_eq (y : Fin 384) : Softmax.copies (kept p) (col p) y
    = if y.val < 256 then 1 else if y.val < 288 then 2 else if y.val < 344 then 8 else 0 := by
  have hc : ∀ t : Fin 2048, (kept p t ∧ col p t = y) ↔ ((rho p t).val < 12 ∧ y.val = if (rho p t).val < 4 then 64 * (rho p t).val + t.val % 64
      else if (rho p t).val = 4 then 256 + t.val % 64 / 2 else 288 + 8 * ((rho p t).val - 5) + t.val % 64 / 8) := by
    intro t
    unfold kept col
    refine and_congr_right fun h12 => ?_
    rw [Fin.ext_iff, eq_comm]
    by_cases h4 : (rho p t).val < 4
    · simp only [dif_pos h4, if_pos h4]
    · by_cases h5 : (rho p t).val = 4
      · simp only [dif_neg h4, dif_pos h5, if_neg h4, if_pos h5]
      · simp only [dif_neg h4, dif_neg h5, dif_pos h12, if_neg h4, if_neg h5]
  have hy := y.isLt
  by_cases h1 : y.val < 256
  · rw [if_pos h1]
    refine copies_of p y ⟨y.val / 64, by omega⟩ 1 (y.val % 64) (by norm_num) (by omega) fun t => ?_
    rw [hc]
    simp only [Nat.div_one]
    split_ifs <;> omega
  · rw [if_neg h1]
    by_cases h2 : y.val < 288
    · rw [if_pos h2]
      refine copies_of p y ⟨4, by omega⟩ 2 (y.val - 256) (by norm_num) (by omega) fun t => ?_
      rw [hc]
      simp only
      split_ifs <;> omega
    · rw [if_neg h2]
      by_cases h3 : y.val < 344
      · rw [if_pos h3]
        refine copies_of p y ⟨5 + (y.val - 288) / 8, by omega⟩ 8 (y.val % 8) (by norm_num) (by omega) fun t => ?_
        rw [hc]
        simp only
        split_ifs <;> omega
      · rw [if_neg h3]
        unfold Softmax.copies
        rw [Finset.card_eq_zero, Finset.filter_eq_empty_iff]
        intro t _
        rw [hc]
        split_ifs <;> omega

/-- The logarithm that a column gets is that of the number of tokens that it stands for. -/
theorem colScore_eq (x : Fin 384 → ℝ) (y : Fin 384) : Softmax.colScore (kept p) (col p) x y = (x y : EReal) + bias y := by
  unfold Softmax.colScore bias
  rw [copies_eq]
  congr 1
  split_ifs <;> simp_all

/-- The column of a token holds the row that the reference has there. -/
theorem gath_col (ws : Fin 32 → BitVec 32) (hws : ∀ j, ws j = BitVec.ofNat 32 (blockAt p j).val) (X : FVec Ideal S1x12x2048x64 .f32)
    (h : Fin 12) (t : Fin 2048) (ht : kept p t) (d : Fin 64) :
    gath (F := Ideal) ws (headOf (F := Ideal) X h.val) (ix2 (col p t) d) = averaged (rho p t) X h t d := by
  have hn : ∀ j, (ws j).toNat = (blockAt p j).val := by
    intro j
    rw [hws, BitVec.toNat_ofNat]
    exact Nat.mod_eq_of_lt (by omega)
  have hX : ∀ (i : ℕ) (hi : i < 2048) (i' : Fin 2048), i = i'.val → headOf (F := Ideal) X h.val (ix4 0 0 ⟨i, hi⟩ d) = X (ix4 0 h i' d) := by
    intro i hi i' e
    subst e
    exact congrArg (fun h' => X (ix4 0 h' i' d)) (Fin.ext (Nat.mod_eq_of_lt h.isLt))
  have hb := blockAt_rho p t
  have h12 : (rho p t).val < 12 := ht
  unfold averaged
  by_cases h4 : (rho p t).val < 4
  · rw [if_pos h4]
    have hy : col p t = ⟨64 * (rho p t).val + t.val % 64, by omega⟩ := by unfold col; rw [dif_pos h4]
    rw [hy]
    unfold gath
    have e : (⟨(64 * (rho p t).val + t.val % 64) / 64 % 32, by omega⟩ : Fin 32) = rho p t := Fin.ext (by simp only; omega)
    rw [if_pos (by show 64 * (rho p t).val + t.val % 64 < 256; omega)]
    show rows (headOf (F := Ideal) X h.val) ((ws ⟨(64 * (rho p t).val + t.val % 64) / 64 % 32, _⟩).toNat * 64) (ix4 0 0 ⟨(64 * (rho p t).val + t.val % 64) % 64, _⟩ d) = _
    rw [e, hn]
    exact hX _ _ t (by simp only; show min ((blockAt p (rho p t)).val * 64 + (64 * (rho p t).val + t.val % 64) % 64) 2047 = _; omega)
  · rw [if_neg h4]
    by_cases h5 : (rho p t).val = 4
    · rw [if_pos h5]
      have hy : col p t = ⟨256 + t.val % 64 / 2, by omega⟩ := by unfold col; rw [dif_neg h4, dif_pos h5]
      rw [hy]
      have e : (4 : Fin 32) = rho p t := Fin.ext h5.symm
      have e2 : (⟨(256 + t.val % 64 / 2) % 32, by omega⟩ : Fin 40) = ⟨(⟨t.val % 64 / 2, by omega⟩ : Fin 32).val, by simp only; omega⟩ := Fin.ext (by simp only; omega)
      unfold gath
      rw [if_neg (by show ¬ 256 + t.val % 64 / 2 < 256; omega), if_pos (by show 256 + t.val % 64 / 2 < 288; omega)]
      show pool (headOf (F := Ideal) X h.val) (64 * (ws 4).toNat) (ix2 ⟨(256 + t.val % 64 / 2) % 32, _⟩ d) = _
      rw [e2, e, hn, pool_two]
      congr 1
      refine Finset.sum_congr rfl fun i _ => hX _ _ _ ?_
      simp only
      omega
    · rw [if_neg h5, if_pos h12]
      have hy : col p t = ⟨288 + 8 * ((rho p t).val - 5) + t.val % 64 / 8, by omega⟩ := by unfold col; rw [dif_neg h4, dif_neg h5, dif_pos h12]
      rw [hy]
      have e : (⟨(5 + (288 + 8 * ((rho p t).val - 5) + t.val % 64 / 8 - 288) / 8) % 32, by omega⟩ : Fin 32) = rho p t := Fin.ext (by simp only; omega)
      have e2 : (⟨32 + (288 + 8 * ((rho p t).val - 5) + t.val % 64 / 8) % 8, by omega⟩ : Fin 40) = ⟨32 + (⟨t.val % 64 / 8, by omega⟩ : Fin 8).val, by simp only; omega⟩ := Fin.ext (by simp only; omega)
      unfold gath
      rw [if_neg (by show ¬ 288 + 8 * ((rho p t).val - 5) + t.val % 64 / 8 < 256; omega), if_neg (by show ¬ 288 + 8 * ((rho p t).val - 5) + t.val % 64 / 8 < 288; omega),
        if_pos (by show 288 + 8 * ((rho p t).val - 5) + t.val % 64 / 8 < 344; omega)]
      show pool (headOf (F := Ideal) X h.val) (64 * (ws ⟨(5 + (288 + 8 * ((rho p t).val - 5) + t.val % 64 / 8 - 288) / 8) % 32, _⟩).toNat) (ix2 ⟨32 + (288 + 8 * ((rho p t).val - 5) + t.val % 64 / 8) % 8, _⟩ d) = _
      rw [e2, e, hn, pool_eight]
      congr 1
      refine Finset.sum_congr rfl fun i _ => hX _ _ _ ?_
      simp only
      omega

/-! ## Real values -/

/-- The value is a real number. -/
def IsReal (e : EReal) : Prop := ∃ r : ℝ, e = r

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sum {ι : Type} (s : Finset ι) {f : ι → EReal} (hf : ∀ i, IsReal (f i)) : IsReal (∑ i ∈ s, f i) := by
  choose g hg using hf
  exact ⟨∑ i ∈ s, g i, by rw [Softmax.coe_sum]; exact Finset.sum_congr rfl fun i _ => hg i⟩

theorem IsReal.coe (r : ℝ) : IsReal (r : EReal) := ⟨r, rfl⟩

/-- The gathered columns of real rows are real. -/
theorem gath_real (ws : Fin 32 → BitVec 32) (hws : ∀ j, ws j = BitVec.ofNat 32 (blockAt p j).val) (x : Vec Ideal S1x1x2048x64 .f32)
    (hx : ∀ (t : Fin 2048) (d : Fin 64), IsReal (x (ix4 0 0 t d))) (y : Fin 384) (d : Fin 64) : IsReal (gath (F := Ideal) ws x (ix2 y d)) := by
  have hn : ∀ j, (ws j).toNat = (blockAt p j).val := by
    intro j
    rw [hws, BitVec.toNat_ofNat]
    exact Nat.mod_eq_of_lt (by omega)
  unfold gath
  by_cases h1 : y.val < 256
  · rw [if_pos (by exact h1)]
    exact hx _ _
  · rw [if_neg (by exact h1)]
    by_cases h2 : y.val < 288
    · rw [if_pos (by exact h2), hn]
      exact (pool_two x (blockAt p 4) ⟨y.val % 32, by omega⟩ d).symm ▸ (IsReal.sum _ fun i => hx _ _).mul (IsReal.coe _)
    · rw [if_neg (by exact h2)]
      by_cases h3 : y.val < 344
      · rw [if_pos (by exact h3), hn]
        exact (pool_eight x (blockAt p _) ⟨y.val % 8, by omega⟩ d).symm ▸ (IsReal.sum _ fun i => hx _ _).mul (IsReal.coe _)
      · rw [if_neg (by exact h3)]
        exact ⟨0, by show Ideal.ofBits .f32 0x00000000#32 = _; simp [Ideal.ofBits, Ideal.ieee]⟩

end Cert.KernelIdeal.Attn
end
-- ==== Proof.Ref.Out.lean ====
module

public import proofs.«01_k».proof.Proof.Ref.Tokens

@[expose] public section

set_option maxRecDepth 16384

noncomputable section

namespace Cert.ReferenceIdeal.Attn

open Cert.ReferenceIdeal Cert.ReferenceIdeal.Gen Cert.ReferenceIdeal.Facts
open Idealize.ShloMosaic Idealize.ShloMosaic.TcCoe Idealize.ShloMosaic.Tactic Idealize.ShloMosaic.StableHlo
open Idealize.SL.Sem

/-- The greatest score of each query. -/
def topOf (S : FVec Ideal S1x12x16x128x2048 .f32) : FVec Ideal S1x12x16x128 .f32 :=
  maximumf (broadcastInDim S1x12x16x128 ![] bcast_S_S1x12x16x128 (constant S_ .f32 0xFF800000#32))
    (Host.reduce FloatOps.maximumf S (constant S_ .f32 0xFF800000#32) reducesTo_S1x12x16x128x2048_S1x12x16x128_d4 h_S_)

/-- The exponentials of the scores less their greatest. -/
def exps (S : FVec Ideal S1x12x16x128x2048 .f32) : FVec Ideal S1x12x16x128x2048 .f32 :=
  Host.exp (subf S (broadcastInDim S1x12x16x128x2048 ![0, 1, 2, 3, 4] bcast_S1x12x16x128x1_S1x12x16x128x2048_0_1_2_3_4
    (broadcastInDim S1x12x16x128x1 ![0, 1, 2, 3] bcast_S1x12x16x128_S1x12x16x128x1_0_1_2_3 (topOf S))))

/-- The attention of the exponentials `P` over the values `E`. -/
def attend (P : FVec Ideal S1x12x16x128x2048 .f32) (E : FVec Ideal S1x12x16x2048x64 .f32) : FVec Ideal S1x12x2048x64 .f32 :=
  shapeCast _ (Host.dotGeneral (φ₁ := .f32) (φ₂ := .f32) dot_S1x12x16x128x2048_S1x12x16x2048x64_S1x12x16x128x64_4_3_3_4_012_012 none
    (Host.divf P (broadcastInDim S1x12x16x128x2048 ![0, 1, 2, 3, 4] bcast_S1x12x16x128x1_S1x12x16x128x2048_0_1_2_3_4
      (broadcastInDim S1x12x16x128x1 ![0, 1, 2, 3] bcast_S1x12x16x128_S1x12x16x128x1_0_1_2_3
        (Host.reduceAdd P (constant S_ .f32 0x00000000#32) reducesTo_S1x12x16x128x2048_S1x12x16x128_d4 h_S_)))) E) shapeCasts_S1x12x16x128x64_S1x12x2048x64

theorem red4 : S1x12x16x128x2048.Reduces [4] S1x12x16x128 := by decide

theorem bot_word : (Ideal.ofBits .f32 0xFF800000#32 : EReal) = ⊥ := by simp [Ideal.ofBits, Ideal.ieee]

/-- The place of a score in the array, from its query and its token. -/
theorem lift4 (h : Fin 12) (g : Fin 16) (r : Fin 128) (t : Fin 2048) : red4.lift (ix4 0 h g r) t = ix5 0 h g r t := by
  funext a
  fin_cases a <;> rfl

/-- The greatest score, as a fold over the tokens. -/
theorem fold4 (S : FVec Ideal S1x12x16x128x2048 .f32) (z : FVec Ideal S_ .f32) (j : S1x12x16x128.Idx) :
    Host.reduce FloatOps.maximumf S z reducesTo_S1x12x16x128x2048_S1x12x16x128_d4 h_S_ j
      = (Finset.univ : Finset (Fin 2048)).fold max (z (Shape.Idx.first h_S_)) (fun t => S (red4.lift j t)) :=
  Host.reduce_eq_fold_single (FloatOps.maximumf (F := Ideal) (φ := .f32)) S z reducesTo_S1x12x16x128x2048_S1x12x16x128_d4 red4 h_S_ j

theorem max_with_bot (R : FVec Ideal S1x12x16x128 .f32) (h : Fin 12) (g : Fin 16) (r : Fin 128) :
    (maximumf (broadcastInDim S1x12x16x128 ![] bcast_S_S1x12x16x128 (constant S_ .f32 0xFF800000#32)) R : FVec Ideal S1x12x16x128 .f32) (ix4 0 h g r) = R (ix4 0 h g r) := by
  have e1 : max (Ideal.ofBits .f32 0xFF800000#32) (R (ix4 0 h g r)) = R (ix4 0 h g r) := by
    rw [bot_word, max_eq_right bot_le]
  exact e1

theorem topOf_eq (S : FVec Ideal S1x12x16x128x2048 .f32) (h : Fin 12) (g : Fin 16) (r : Fin 128) : topOf S (ix4 0 h g r) = Host.reduce FloatOps.maximumf S (constant S_ .f32 0xFF800000#32) reducesTo_S1x12x16x128x2048_S1x12x16x128_d4 h_S_ (ix4 0 h g r) :=
  max_with_bot _ h g r

theorem topOf_apply (S : FVec Ideal S1x12x16x128x2048 .f32) (h : Fin 12) (g : Fin 16) (r : Fin 128) :
    Softmax.IsMax (fun t : Fin 2048 => S (ix5 0 h g r t)) (topOf S (ix4 0 h g r)) := by
  have e3 : ((constant S_ .f32 0xFF800000#32 : FVec Ideal S_ .f32) (Shape.Idx.first h_S_)) = (⊥ : EReal) := bot_word
  have e4 : (fun t : Fin 2048 => S (red4.lift (ix4 0 h g r) t)) = fun t => S (ix5 0 h g r t) :=
    funext fun t => congrArg S (lift4 h g r t)
  rw [topOf_eq, fold4, e3]
  exact (congrArg (fun f : Fin 2048 → EReal => Softmax.IsMax (fun t : Fin 2048 => S (ix5 0 h g r t)) ((Finset.univ : Finset (Fin 2048)).fold max ⊥ f)) e4).mpr (Softmax.isMax_fold _)

theorem exps_apply (S : FVec Ideal S1x12x16x128x2048 .f32) (h : Fin 12) (g : Fin 16) (r : Fin 128) (t : Fin 2048) :
    exps S (ix5 0 h g r t) = Ideal.exp (S (ix5 0 h g r t) - topOf S (ix4 0 h g r)) := by
  unfold exps
  generalize topOf S = M
  pointwise

theorem attend_apply (P : FVec Ideal S1x12x16x128x2048 .f32) (E : FVec Ideal S1x12x16x2048x64 .f32) (h : Fin 12) (g : Fin 16) (r : Fin 128) (d : Fin 64) :
    attend P E (ix4 0 h ⟨g.val * 128 + r.val, by omega⟩ d)
      = ∑ t : Fin 2048, Ideal.div (P (ix5 0 h g r t)) (∑ t : Fin 2048, P (ix5 0 h g r t)) * E (ix5 0 h g t d) := by
  have e : ∀ m : Fin 2048, attend P E (ix4 0 h m d)
      = ∑ t : Fin 2048, Ideal.div (P (ix5 0 h ⟨m.val / 128, by omega⟩ ⟨m.val % 128, by omega⟩ t)) (∑ t : Fin 2048, P (ix5 0 h ⟨m.val / 128, by omega⟩ ⟨m.val % 128, by omega⟩ t)) * E (ix5 0 h ⟨m.val / 128, by omega⟩ t d) := by
    intro m
    unfold attend
    pointwise
  rw [e]
  have e1 : (⟨(g.val * 128 + r.val) / 128, by omega⟩ : Fin 16) = g := Fin.ext (by simp only; omega)
  have e2 : (⟨(g.val * 128 + r.val) % 128, by omega⟩ : Fin 128) = r := Fin.ext (by simp only; omega)
  simp only [e1, e2]

/-- The reference's result from the levels of the blocks. -/
def result (lev : IVec S1x12x16x32 32) (q k v : FVec Ideal S1x12x2048x64 .f32) : FVec Ideal S1x12x2048x64 .f32 :=
  attend (exps (scores lev q k)) (effective (picks lev) (stack v))

/-- The levels of the blocks, as the reference finds them in the memory `m`. -/
def levels (m : (ℓ : Loc nD τ sig) → Buf (Elt Ideal) ℓ) (c : Dev nD) : IVec S1x12x16x32 32 := Value.res_main_v44 (launchContents m c)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v143)
        = result (levels m c) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by sl_kernel_rfl), (h c).2⟩) (Value.run (F := Ideal) m ρ)

end Cert.ReferenceIdeal.Attn
end
-- ==== Proof.Same.lean ====
module

public import proofs.«01_k».proof.Proof.Tokens
public import proofs.«01_k».proof.Proof.Ref.Out

@[expose] public section

set_option maxRecDepth 16384

noncomputable section

namespace Cert.KernelIdeal.Attn

open Cert.KernelIdeal.Gen
open Cert.KernelIdeal.Facts
open Idealize.ShloMosaic Idealize.ShloMosaic.TcCoe Idealize.ShloMosaic.Tactic
open Idealize.SL.Sem
open Cert.ReferenceIdeal.Attn (averaged levelOf result attend exps scores effective picks stack topOf attend_apply exps_apply scores_apply effective_of_level topOf_apply)

/-! ## The kernel's block of results is the reference's -/

/-- Attention over the gathered columns is the reference's attention over the tokens. -/
theorem block_eq (q k v : FVec Ideal S1x12x2048x64 .f32) (hq : ∀ i, IsReal (q i)) (hk : ∀ i, IsReal (k i))
    (lev : IVec S1x12x16x32 32) (h : Fin 12) (g : Fin 16) (p : Fin 32 → EReal) (hlev : ∀ b, lev (ix4 0 h g b) = levelOf (rk p b))
    (ws : Fin 32 → BitVec 32) (hws : ∀ j, ws j = BitVec.ofNat 32 (blockAt p j).val) (x1 : Vec Ideal S1x1x128x64 .f32)
    (hx1 : ∀ (r : Fin 128) (d : Fin 64), x1 (ix4 0 0 r d) = q (ix4 0 h ⟨g.val * 128 + r.val, by omega⟩ d)) (r : Fin 128) (d : Fin 64) :
    outBlock (F := Ideal) ws x1 (headOf (F := Ideal) k h.val) (headOf (F := Ideal) v h.val) (ix4 0 0 r d)
      = result lev q k v (ix4 0 h ⟨g.val * 128 + r.val, by omega⟩ d) := by
  have hX : ∀ y : Fin 384, IsReal ((∑ d : Fin 64, x1 (ix4 0 0 r d) * gath (F := Ideal) ws (headOf (F := Ideal) k h.val) (ix2 y d)) * ((1 / 8 : ℝ) : EReal)) := fun y =>
    (IsReal.sum _ fun d => (by rw [hx1]; exact hq _ : IsReal (x1 (ix4 0 0 r d))).mul (gath_real p ws hws _ (fun t d => hk _) y d)).mul (IsReal.coe _)
  choose x hx using hX
  have hl : ∀ t : Fin 2048, lev (ix4 0 h g ⟨t.val / 64, by omega⟩) = levelOf (rho p t) := fun t => hlev _
  have hs : ∀ t : Fin 2048, scores lev q k (ix5 0 h g r t) = Softmax.score (kept p) (col p) x t := by
    intro t
    rw [scores_apply lev q k h g r t (rho p t) (hl t)]
    unfold Softmax.score
    by_cases ht : kept p t
    · rw [if_pos ht, if_pos (show (rho p t).val < 12 from ht), ← hx]
      congr 1
      refine Finset.sum_congr rfl fun d _ => ?_
      rw [hx1, gath_col p ws hws k h t ht d]
    · rw [if_neg ht, if_neg (show ¬ (rho p t).val < 12 from ht)]
  have hc : ∀ y : Fin 384, logits x1 (gath (F := Ideal) ws (headOf (F := Ideal) k h.val)) (ix2 r y) = Softmax.colScore (kept p) (col p) x y := by
    intro y
    rw [logits_apply, colScore_eq, ← hx]
  have hM : Softmax.IsMax (Softmax.score (kept p) (col p) x) (topOf (scores lev q k) (ix4 0 h g r)) := by
    rw [← funext hs]
    exact topOf_apply _ h g r
  have hm : Softmax.IsMax (Softmax.colScore (kept p) (col p) x) (rowMax (logits x1 (gath (F := Ideal) ws (headOf (F := Ideal) k h.val))) (ix1 r)) := by
    rw [← funext hc]
    exact rowMax_apply _ r
  have hne : ∃ t, kept p t := by
    refine ⟨⟨64 * (blockAt p 0).val, by omega⟩, ?_⟩
    have : rho p ⟨64 * (blockAt p 0).val, by omega⟩ = 0 := (rho_eq_iff p _ _).mpr (by simp only; omega)
    unfold kept
    rw [this]
    decide
  have hw : ∀ t, kept p t → effective (picks lev) (stack v) (ix5 0 h g t d) = (fun y : Fin 384 => gath (F := Ideal) ws (headOf (F := Ideal) v h.val) (ix2 y d)) (col p t) := by
    intro t ht
    rw [effective_of_level lev v h g t d (rho p t) (hl t)]
    exact (gath_col p ws hws v h t ht d).symm
  have e1 : outBlock (F := Ideal) ws x1 (headOf (F := Ideal) k h.val) (headOf (F := Ideal) v h.val) (ix4 0 0 r d)
      = Ideal.div (∑ y : Fin 384, Ideal.exp (Softmax.colScore (kept p) (col p) x y - rowMax (logits x1 (gath (F := Ideal) ws (headOf (F := Ideal) k h.val))) (ix1 r)) * gath (F := Ideal) ws (headOf (F := Ideal) v h.val) (ix2 y d))
          (∑ y : Fin 384, Ideal.exp (Softmax.colScore (kept p) (col p) x y - rowMax (logits x1 (gath (F := Ideal) ws (headOf (F := Ideal) k h.val))) (ix1 r))) := by
    rw [← funext hc]
    exact out_apply _ _ x1 r d
  have e2 : result lev q k v (ix4 0 h ⟨g.val * 128 + r.val, by omega⟩ d)
      = ∑ t : Fin 2048, Ideal.div (Ideal.exp (Softmax.score (kept p) (col p) x t - topOf (scores lev q k) (ix4 0 h g r)))
          (∑ t : Fin 2048, Ideal.exp (Softmax.score (kept p) (col p) x t - topOf (scores lev q k) (ix4 0 h g r))) * effective (picks lev) (stack v) (ix5 0 h g t d) := by
    unfold result
    rw [attend_apply]
    simp only [exps_apply, hs]
  rw [e1, e2]
  exact Softmax.softmax_eq (v := fun y : Fin 384 => gath (F := Ideal) ws (headOf (F := Ideal) v h.val) (ix2 y d))
    (w := fun t : Fin 2048 => effective (picks lev) (stack v) (ix5 0 h g t d)) hne hw hM hm

end Cert.KernelIdeal.Attn
end
-- ==== Proof.Result.lean ====
module

public import proofs.«01_k».proof.Proof.Whole
public import Idealize.ShloMosaic.Lib.Pipeline.ValueKit

@[expose] public section

set_option maxRecDepth 16384

noncomputable section

namespace Cert.KernelIdeal.Attn

open Cert.KernelIdeal.Gen
open Cert.KernelIdeal.Facts
open Idealize.ShloMosaic Idealize.ShloMosaic.TcCoe Idealize.ShloMosaic.Tactic
open Idealize.SL.Sem

/-! ## The kernel's result array -/

variable (m : (ℓ : Loc nD τ sig) → Buf (Elt Ideal) ℓ)

/-- The queries that a point reads. -/
theorem iblk1_apply (c : Dev nD) (t : Fin cfg0.N) (r : Fin 128) (d : Fin 64) :
    iblk m c 1 t (ix4 0 0 r d) = m ((c : Thread nD τ).loc main_arg0) (ix4 0 ⟨t.val / 16 % 12, by omega⟩ ⟨t.val % 16 * 128 + r.val, by omega⟩ d) := by
  rw [← V_main_arg0 m c]
  have ht : t.val < 192 := Nat.lt_of_lt_of_eq t.isLt N_0
  blk_ext [iblk, idx t, coords0 t, coords1 t]

/-- An array whose blocks are the points' results is the kernel's result. -/
theorem result_eq (c : Dev nD) (R : FVec Ideal S1x12x2048x64 .f32)
    (hR : ∀ (t : Fin cfg0.N) (r : Fin 128) (d : Fin 64), outAt m c t (ix4 0 0 r d) = R (ix4 0 ⟨t.val / 16 % 12, by omega⟩ ⟨t.val % 16 * 128 + r.val, by omega⟩ d)) :
    (dats m 0 c).arrAt 4 (cfgs 0).N = R := by
  refine (dats m 0 c).arrAt_eq_of_covers 4 _ (by decide +kernel) fun t hf y => ?_
  blk_simp
  rw [after0_4]
  have hy : y = ix4 0 0 (y 2) (y 3) := by
    funext a
    fin_cases a
    · exact Fin.ext (Nat.lt_one_iff.mp (y 0).isLt)
    · exact Fin.ext (Nat.lt_one_iff.mp (y 1).isLt)
    · rfl
    · rfl
  refine (congrArg (outAt m c t) hy).trans ((hR t (y 2) (y 3)).trans ?_)
  have ht : t.val < 192 := Nat.lt_of_lt_of_eq t.isLt N_0
  blk_ext [iblk, idx t, coords0 t, coords1 t]

end Cert.KernelIdeal.Attn
end
-- ==== Proof.Ref.Sort.lean ====
module

public import proofs.«01_k».proof.Proof.Rank
public import proofs.«01_k».proof.Proof.Ref.Tokens
public import Idealize.ShloMosaic.Lib.SortFacts

@[expose] public section

set_option maxRecDepth 16384

noncomputable section

namespace Cert.ReferenceIdeal.Attn

open Cert.ReferenceIdeal Cert.ReferenceIdeal.Gen Cert.ReferenceIdeal.Facts
open Idealize.ShloMosaic Idealize.ShloMosaic.TcCoe Idealize.ShloMosaic.Tactic Idealize.ShloMosaic.StableHlo
open Idealize.SL.Sem
open Cert.KernelIdeal.Attn (Front rk blockAt rkEquiv rk_lt rk_injective rk_blockAt blockAt_rk)

/-! ## The reference sorts the blocks by weight; its position of a block is the block's rank -/

/-- The stable sort of a list reads its comparison only with the later element first. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable sort whose comparison agrees with the order of a permutation lists the positions in that order. -/
theorem sortedFrom_perm {n : Nat} (B : Fin n → Fin n → Bool) (σ : Equiv.Perm (Fin n))
    (h : ∀ a b : Fin n, a < b → B b a = decide (σ.symm b < σ.symm a)) (r : Fin n) : sortedFrom B r = σ r := by
  have e : sortPositions n B = List.ofFn σ := by
    rw [← sortPositions_of_perm σ]
    exact stableSort_later _ _ _ ((List.pairwise_lt_finRange n).imp fun {a b} hab => h a b hab)
  unfold sortedFrom
  rw [List.get_of_eq e]
  simp

/-- A block of larger weight is in front. -/
theorem rk_lt_iff (p : Fin 32 → EReal) {a b : Fin 32} (hab : a < b) : rk p b < rk p a ↔ p a < p b := by
  constructor
  · intro h
    by_contra hn
    rcases lt_or_eq_of_le (not_lt.mp hn) with g | g
    · exact absurd (h.trans (rk_lt (Or.inl g))) (lt_irrefl _)
    · exact absurd (h.trans (rk_lt (Or.inr ⟨g.symm, hab⟩))) (lt_irrefl _)
  · intro h
    exact rk_lt (Or.inl h)

theorem bit_eq_one (b : Bool) : (BitVec.ofBool b == 1#1) = b := by cases b <;> decide

/-- The comparison of weights in the sort. -/
theorem comparator_weights (a b : EReal × BitVec 32) :
    comparator_f32_i32_d3 (F := Ideal) a b = BitVec.ofBool (decide (a.1 < b.1)) := by
  have hz : (FloatOps.ofBits (F := Ideal) .f32 0x00000000#32 : EReal) = 0 := by
    show Ideal.ofBits .f32 0x00000000#32 = 0
    simp [Ideal.ofBits, Ideal.ieee]
  have h1 : ∀ x : EReal, (Scalar.select (FloatOps.cmpf (F := Ideal) (φ := .f32) .oeq x 0) 0 x : EReal) = x := by
    intro x
    show (Scalar.select (BitVec.ofBool (decide (x = 0))) 0 x : EReal) = x
    rcases eq_or_ne x 0 with h | h
    · simp [h, Scalar.select]
    · simp [h, Scalar.select]
  have h2 : ∀ x y z : EReal, (Scalar.select (FloatOps.cmpf (F := Ideal) (φ := .f32) .une x x) y z : EReal) = z := by
    intro x y z
    show (Scalar.select (BitVec.ofBool (decide (x ≠ x))) y z : EReal) = z
    simp [Scalar.select]
  unfold comparator_f32_i32_d3
  dsimp only
  rw [hz, h2, h2, h1, h1]
  rfl

/-- The second result of a sort of pairs along the blocks. -/
theorem sort2_snd {α β : Type} (cmp : α × β → α × β → BitVec 1) (x : S1x12x16x32.Idx → α) (y : S1x12x16x32.Idx → β)
    (h : Fin 12) (g : Fin 16) (r : Fin 32) :
    (Host.sort2 S1x12x16x32 3 cmp x y).2 (ix4 0 h g r)
      = y (ix4 0 h g (sortedFrom (fun k k' : Fin 32 => cmp (x (ix4 0 h g k), y (ix4 0 h g k)) (x (ix4 0 h g k'), y (ix4 0 h g k')) == 1#1) r)) := by
  have ha : ∀ k : Fin 32, Shape.Idx.along (s := S1x12x16x32) (ix4 0 h g r) (3 : Fin 4) k = ix4 0 h g k := by
    intro k
    funext a
    fin_cases a <;> rfl
  have e : (Host.sort2 S1x12x16x32 3 cmp x y).2 (ix4 0 h g r)
      = y (Shape.Idx.along (s := S1x12x16x32) (ix4 0 h g r) (3 : Fin 4) (sortedFrom (fun k k' : Fin 32 =>
          cmp (x (Shape.Idx.along (s := S1x12x16x32) (ix4 0 h g r) (3 : Fin 4) k), y (Shape.Idx.along (s := S1x12x16x32) (ix4 0 h g r) (3 : Fin 4) k))
            (x (Shape.Idx.along (s := S1x12x16x32) (ix4 0 h g r) (3 : Fin 4) k'), y (Shape.Idx.along (s := S1x12x16x32) (ix4 0 h g r) (3 : Fin 4) k')) == 1#1) r)) := by
    unfold Host.sort2
    rw [dif_pos (show 3 < S1x12x16x32.rank by decide)]
    rfl
  exact e.trans (congrArg (fun f : Fin 32 → S1x12x16x32.Idx => y (f (sortedFrom (fun k k' : Fin 32 => cmp (x (f k), y (f k)) (x (f k'), y (f k')) == 1#1) r))) (funext ha))

/-- The second result of a sort of pairs whose comparison follows the order of a permutation. -/
theorem sort2_perm {α β : Type} (cmp : α × β → α × β → BitVec 1) (x : S1x12x16x32.Idx → α) (y : S1x12x16x32.Idx → β)
    (h : Fin 12) (g : Fin 16) (σ : Equiv.Perm (Fin 32))
    (hσ : ∀ a b : Fin 32, a < b → (cmp (x (ix4 0 h g b), y (ix4 0 h g b)) (x (ix4 0 h g a), y (ix4 0 h g a)) == 1#1) = decide (σ.symm b < σ.symm a))
    (r : Fin 32) : (Host.sort2 S1x12x16x32 3 cmp x y).2 (ix4 0 h g r) = y (ix4 0 h g (σ r)) := by
  rw [sort2_snd, sortedFrom_perm _ σ hσ]

/-- The positions of the blocks, sorted by the negated weights `W` and then back. -/
def positions (W : FVec Ideal S1x12x16x32 .f32) : IVec S1x12x16x32 32 :=
  (Host.sort2 S1x12x16x32 3 comparator_i32_i32_d3 (Host.sort2 S1x12x16x32 3 (comparator_f32_i32_d3 (F := Ideal)) W (iotaInDim S1x12x16x32 32 3)).2
    (iotaInDim S1x12x16x32 32 3)).2

theorem iota_apply (h : Fin 12) (g : Fin 16) (r : Fin 32) :
    iotaInDim S1x12x16x32 32 3 (ix4 0 h g r) = BitVec.ofNat 32 r.val := rfl

theorem slt_small : ∀ j i : Fin 32, IntOp.cmpi .slt (BitVec.ofNat 32 j.val) (BitVec.ofNat 32 i.val) = BitVec.ofBool (decide (j < i)) := by
  decide +kernel

theorem positions_apply (W : FVec Ideal S1x12x16x32 .f32) (h : Fin 12) (g : Fin 16) (p : Fin 32 → EReal)
    (hW : ∀ b, W (ix4 0 h g b) = -p b) (b : Fin 32) : positions W (ix4 0 h g b) = BitVec.ofNat 32 (rk p b).val := by
  have e1 : ∀ r, (Host.sort2 S1x12x16x32 3 (comparator_f32_i32_d3 (F := Ideal)) W (iotaInDim S1x12x16x32 32 3)).2 (ix4 0 h g r)
      = BitVec.ofNat 32 (blockAt p r).val := by
    intro r
    refine (sort2_perm _ _ _ h g (rkEquiv p).symm (fun a b hab => ?_) r).trans (iota_apply h g _)
    rw [comparator_weights, bit_eq_one]
    dsimp only
    rw [hW, hW]
    exact decide_eq_decide.mpr (EReal.neg_lt_neg_iff.trans (rk_lt_iff p hab).symm)
  unfold positions
  generalize (Host.sort2 S1x12x16x32 3 (comparator_f32_i32_d3 (F := Ideal)) W (iotaInDim S1x12x16x32 32 3)).2 = X at e1 ⊢
  refine (sort2_perm _ _ _ h g (rkEquiv p) (fun a c hac => ?_) b).trans (iota_apply h g _)
  rw [e1, e1]
  exact (congrArg (· == 1#1) (slt_small _ _)).trans (bit_eq_one _)

/-- The levels of the blocks, from their positions. -/
def levelsOf (N : IVec S1x12x16x32 32) : IVec S1x12x16x32 32 :=
  let v34 : FVec Ideal S1x12x16x32 .f32 := Host.divf (sitofp .f32 N) (broadcastInDim S1x12x16x32 ![] bcast_S_S1x12x16x32 (constant S_ .f32 0x42000000#32))
  id (select (cmpf .olt v34 (broadcastInDim S1x12x16x32 ![] bcast_S_S1x12x16x32 (constant S_ .f32 0x3DCCCCCD#32))) (broadcastInDim S1x12x16x32 ![] bcast_S_S1x12x16x32 (constantI S_ 32 1#32)) (select (cmpf .olt v34 (broadcastInDim S1x12x16x32 ![] bcast_S_S1x12x16x32 (constant S_ .f32 0x3E19999A#32))) (broadcastInDim S1x12x16x32 ![] bcast_S_S1x12x16x32 (constantI S_ 32 2#32)) (select (cmpf .olt v34 (broadcastInDim S1x12x16x32 ![] bcast_S_S1x12x16x32 (constant S_ .f32 0x3EB33333#32))) (broadcastInDim S1x12x16x32 ![] bcast_S_S1x12x16x32 (constantI S_ 32 8#32)) (broadcastInDim S1x12x16x32 ![] bcast_S_S1x12x16x32 (constantI S_ 32 0#32)))))

theorem word_32 : (Ideal.ofBits .f32 0x42000000#32 : EReal) = ((32 : ℝ) : EReal) := by
  simp [Ideal.ofBits, Ideal.ieee, -EReal.coe_mul]; norm_num

theorem word_first : (Ideal.ofBits .f32 0x3DCCCCCD#32 : EReal) = ((13421773 / 134217728 : ℝ) : EReal) := by
  simp [Ideal.ofBits, Ideal.ieee, -EReal.coe_mul]; norm_num

theorem word_second : (Ideal.ofBits .f32 0x3E19999A#32 : EReal) = ((10066330 / 67108864 : ℝ) : EReal) := by
  simp [Ideal.ofBits, Ideal.ieee, -EReal.coe_mul]; norm_num

theorem word_third : (Ideal.ofBits .f32 0x3EB33333#32 : EReal) = ((11744051 / 33554432 : ℝ) : EReal) := by
  simp [Ideal.ofBits, Ideal.ieee, -EReal.coe_mul]; norm_num

/-- The share of the blocks in front of a block, as the reference computes it. -/
theorem share (n : Fin 32) : Ideal.div (FloatOps.sitofp (F := Ideal) .f32 (BitVec.ofNat 32 n.val)) (Ideal.ofBits .f32 0x42000000#32) = (((n.val : ℝ) / 32 : ℝ) : EReal) := by
  have e : (BitVec.ofNat 32 n.val).toInt = (n.val : ℤ) := by revert n; decide +kernel
  rw [word_32, Ideal.div_coe (by norm_num)]
  show (((BitVec.ofNat 32 n.val).toInt : ℝ) : EReal) * _ = _
  rw [e, ← EReal.coe_mul]
  congr 1
  push_cast
  ring

theorem levelsOf_apply (N : IVec S1x12x16x32 32) (h : Fin 12) (g : Fin 16) (b : Fin 32) (n : Fin 32)
    (hN : N (ix4 0 h g b) = BitVec.ofNat 32 n.val) : levelsOf N (ix4 0 h g b) = levelOf n := by
  have e : levelsOf N (ix4 0 h g b) = Scalar.select (BitVec.ofBool (decide (Ideal.div (FloatOps.sitofp (F := Ideal) .f32 (N (ix4 0 h g b))) (Ideal.ofBits .f32 0x42000000#32) < Ideal.ofBits .f32 0x3DCCCCCD#32))) 1#32
      (Scalar.select (BitVec.ofBool (decide (Ideal.div (FloatOps.sitofp (F := Ideal) .f32 (N (ix4 0 h g b))) (Ideal.ofBits .f32 0x42000000#32) < Ideal.ofBits .f32 0x3E19999A#32))) 2#32
        (Scalar.select (BitVec.ofBool (decide (Ideal.div (FloatOps.sitofp (F := Ideal) .f32 (N (ix4 0 h g b))) (Ideal.ofBits .f32 0x42000000#32) < Ideal.ofBits .f32 0x3EB33333#32))) 8#32 0#32)) := by
    unfold levelsOf
    simp only [id_eq]
    pointwise
  rw [e, hN, share, word_first, word_second, word_third]
  simp only [EReal.coe_lt_coe_iff]
  have a1 : ((n.val : ℝ) / 32 < 13421773 / 134217728) ↔ n.val < 4 := by
    rw [div_lt_div_iff₀ (by norm_num) (by norm_num)]; norm_cast; omega
  have a2 : ((n.val : ℝ) / 32 < 10066330 / 67108864) ↔ n.val < 5 := by
    rw [div_lt_div_iff₀ (by norm_num) (by norm_num)]; norm_cast; omega
  have a3 : ((n.val : ℝ) / 32 < 11744051 / 33554432) ↔ n.val < 12 := by
    rw [div_lt_div_iff₀ (by norm_num) (by norm_num)]; norm_cast; omega
  simp only [a1, a2, a3]
  clear hN a1 a2 a3 e
  revert n
  decide +kernel

end Cert.ReferenceIdeal.Attn
end
-- ==== Proof.Sampled.lean ====
module

public import proofs.«01_k».proof.Proof.Rank

@[expose] public section

set_option maxRecDepth 16384

noncomputable section

namespace Cert.KernelIdeal.Attn

open Cert.KernelIdeal.Gen
open Cert.KernelIdeal.Facts
open Idealize.ShloMosaic Idealize.ShloMosaic.TcCoe Idealize.ShloMosaic.Tactic
open Idealize.SL.Sem

/-! ## The tokens that the kernel draws for its estimate of the block weights -/

/-- The table of the query tokens drawn in each block of queries. -/
def tableQ : IVec S1x12x1x32 32 := fun i => lit0 (S1x12x1x32.rowMajor i)

/-- The table of the key tokens drawn in each block of keys. -/
def tableK : IVec S1x12x1x16 32 := fun i => lit1 (S1x12x1x16.rowMajor i)

/-- The query token of draw `j`, as a number within its block. -/
def tokQ (h : Fin 12) (j : Fin 32) : Fin 128 := ⟨(tableQ (ix4 0 h 0 j)).toNat % 128, Nat.mod_lt _ (by norm_num)⟩

/-- The key token of draw `j`, as a number within its block. -/
def tokK (h : Fin 12) (j : Fin 16) : Fin 64 := ⟨(tableK (ix4 0 h 0 j)).toNat % 64, Nat.mod_lt _ (by norm_num)⟩

theorem tableQ_eq : ∀ (h : Fin 12) (j : Fin 32), tableQ (ix4 0 h 0 j) = BitVec.ofNat 32 (tokQ h j).val := by
  decide +kernel

theorem tableK_eq : ∀ (h : Fin 12) (j : Fin 16), tableK (ix4 0 h 0 j) = BitVec.ofNat 32 (tokK h j).val := by
  decide +kernel

/-- The query tokens drawn by a table. -/
def drawnOfQ (T : IVec S1x12x1x32 32) (X : FVec Ideal S1x12x2048x64 .f32) : FVec Ideal S1x12x512x64 .f32 :=
  shapeCast S1x12x512x64 (Host.reduceAdd (mulf
    (broadcastInDim S1x12x16x32x128x64 ![0, 1, 2, 3, 4, 5] bcast_S1x12x1x32x128x1_S1x12x16x32x128x64_0_1_2_3_4_5
      (broadcastInDim S1x12x1x32x128x1 ![1, 3, 4] bcast_S12x32x128_S1x12x1x32x128x1_1_3_4 (marks (F := Ideal) (shapeCast S12x32 T shapeCasts_S1x12x1x32_S12x32))))
    (broadcastInDim S1x12x16x32x128x64 ![0, 1, 2, 3, 4, 5] bcast_S1x12x16x1x128x64_S1x12x16x32x128x64_0_1_2_3_4_5
      (broadcastInDim S1x12x16x1x128x64 ![0, 1, 2, 4, 5] bcast_S1x12x16x128x64_S1x12x16x1x128x64_0_1_2_4_5
        (shapeCast S1x12x16x128x64 X shapeCasts_S1x12x2048x64_S1x12x16x128x64))))
    (constant S_ .f32 0x00000000#32) reducesTo_S1x12x16x32x128x64_S1x12x16x32x64_d4 h_S_) shapeCasts_S1x12x16x32x64_S1x12x512x64

/-- The key tokens drawn by a table. -/
def drawnOfK (T : IVec S1x12x1x16 32) (X : FVec Ideal S1x12x2048x64 .f32) : FVec Ideal S1x12x512x64 .f32 :=
  shapeCast S1x12x512x64 (Host.reduceAdd (mulf
    (broadcastInDim S1x12x32x16x64x64 ![0, 1, 2, 3, 4, 5] bcast_S1x12x1x16x64x1_S1x12x32x16x64x64_0_1_2_3_4_5
      (broadcastInDim S1x12x1x16x64x1 ![1, 3, 4] bcast_S12x16x64_S1x12x1x16x64x1_1_3_4 (marksK (F := Ideal) (shapeCast S12x16 T shapeCasts_S1x12x1x16_S12x16))))
    (broadcastInDim S1x12x32x16x64x64 ![0, 1, 2, 3, 4, 5] bcast_S1x12x32x1x64x64_S1x12x32x16x64x64_0_1_2_3_4_5
      (broadcastInDim S1x12x32x1x64x64 ![0, 1, 2, 4, 5] bcast_S1x12x32x64x64_S1x12x32x1x64x64_0_1_2_4_5
        (shapeCast S1x12x32x64x64 X shapeCasts_S1x12x2048x64_S1x12x32x64x64))))
    (constant S_ .f32 0x00000000#32) reducesTo_S1x12x32x16x64x64_S1x12x32x16x64_d4 h_S_) shapeCasts_S1x12x32x16x64_S1x12x512x64

theorem drawnQ_eq (X : FVec Ideal S1x12x2048x64 .f32) : drawnQ X = drawnOfQ tableQ X := by sl_kernel_rfl

theorem drawnK_eq (X : FVec Ideal S1x12x2048x64 .f32) : drawnK X = drawnOfK tableK X := by sl_kernel_rfl

/-- A bit as a number, times a number. -/
theorem bit_mul (b : Bool) (x : EReal) : FloatOps.uitofp (F := Ideal) .f32 (BitVec.ofBool b) * x = if b then x else 0 := by
  have e : (FloatOps.uitofp (F := Ideal) .f32 (BitVec.ofBool b) : EReal) = if b then 1 else 0 := by
    show (((BitVec.ofBool b).toNat : ℝ) : EReal) = _
    cases b <;> simp
  rw [e]
  cases b <;> simp

theorem same128 (n : Fin 128) : ∀ i : Fin 128, IntOp.cmpi .eq (BitVec.ofNat 32 n.val) (BitVec.ofNat 32 i.val) = BitVec.ofBool (decide (i = n)) := by
  revert n; decide +kernel

theorem same64 (n : Fin 64) : ∀ i : Fin 64, IntOp.cmpi .eq (BitVec.ofNat 32 n.val) (BitVec.ofNat 32 i.val) = BitVec.ofBool (decide (i = n)) := by
  revert n; decide +kernel

theorem redQ : S1x12x16x32x128x64.Reduces [4] S1x12x16x32x64 := by decide

theorem sumQ (A : FVec Ideal S1x12x16x32x128x64 .f32) (h : Fin 12) (g : Fin 16) (j : Fin 32) (d : Fin 64) :
    Ideal.hostReduceAdd reducesTo_S1x12x16x32x128x64_S1x12x16x32x64_d4 A 0 (ix5 0 h g j d) = ∑ i : Fin 128, A (ix6 0 h g j i d) := by
  have hl : ∀ i : Fin 128, redQ.lift (ix5 0 h g j d) i = ix6 0 h g j i d := by
    intro i
    funext a
    fin_cases a <;> rfl
  exact (Ideal.hostReduceAdd_single _ redQ A 0 _).trans ((zero_add _).trans (Finset.sum_congr rfl fun i _ => congrArg A (hl i)))

theorem redK : S1x12x32x16x64x64.Reduces [4] S1x12x32x16x64 := by decide

theorem sumK (A : FVec Ideal S1x12x32x16x64x64 .f32) (h : Fin 12) (g : Fin 32) (j : Fin 16) (d : Fin 64) :
    Ideal.hostReduceAdd reducesTo_S1x12x32x16x64x64_S1x12x32x16x64_d4 A 0 (ix5 0 h g j d) = ∑ i : Fin 64, A (ix6 0 h g j i d) := by
  have hl : ∀ i : Fin 64, redK.lift (ix5 0 h g j d) i = ix6 0 h g j i d := by
    intro i
    funext a
    fin_cases a <;> rfl
  exact (Ideal.hostReduceAdd_single _ redK A 0 _).trans ((zero_add _).trans (Finset.sum_congr rfl fun i _ => congrArg A (hl i)))

theorem drawnOfQ_apply (T : IVec S1x12x1x32 32) (X : FVec Ideal S1x12x2048x64 .f32) (h : Fin 12) (m : Fin 512) (d : Fin 64) (n : Fin 128)
    (hT : T (ix4 0 h 0 ⟨m.val % 32, by omega⟩) = BitVec.ofNat 32 n.val) :
    drawnOfQ T X (ix4 0 h m d) = X (ix4 0 h ⟨m.val / 32 * 128 + n.val, by omega⟩ d) := by
  have e : drawnOfQ T X (ix4 0 h m d) = ∑ i : Fin 128, FloatOps.uitofp (F := Ideal) .f32 (IntOp.cmpi .eq (T (ix4 0 h 0 ⟨m.val % 32, by omega⟩)) (BitVec.ofNat 32 i.val))
      * X (ix4 0 h ⟨m.val / 32 * 128 + i.val, by omega⟩ d) := by
    unfold drawnOfQ marks
    pointwise
    rw [sumQ]
    refine Finset.sum_congr rfl fun i _ => ?_
    pointwise
  rw [e, hT]
  simp only [same128, bit_mul, decide_eq_true_eq]
  rw [Finset.sum_ite_eq' Finset.univ n (fun i : Fin 128 => X (ix4 0 h ⟨m.val / 32 * 128 + i.val, by omega⟩ d)), if_pos (Finset.mem_univ _)]

theorem drawnOfK_apply (T : IVec S1x12x1x16 32) (X : FVec Ideal S1x12x2048x64 .f32) (h : Fin 12) (m : Fin 512) (d : Fin 64) (n : Fin 64)
    (hT : T (ix4 0 h 0 ⟨m.val % 16, by omega⟩) = BitVec.ofNat 32 n.val) :
    drawnOfK T X (ix4 0 h m d) = X (ix4 0 h ⟨m.val / 16 * 64 + n.val, by omega⟩ d) := by
  have e : drawnOfK T X (ix4 0 h m d) = ∑ i : Fin 64, FloatOps.uitofp (F := Ideal) .f32 (IntOp.cmpi .eq (T (ix4 0 h 0 ⟨m.val % 16, by omega⟩)) (BitVec.ofNat 32 i.val))
      * X (ix4 0 h ⟨m.val / 16 * 64 + i.val, by omega⟩ d) := by
    unfold drawnOfK marksK
    pointwise
    rw [sumK]
    refine Finset.sum_congr rfl fun i _ => ?_
    pointwise
  rw [e, hT]
  simp only [same64, bit_mul, decide_eq_true_eq]
  rw [Finset.sum_ite_eq' Finset.univ n (fun i : Fin 64 => X (ix4 0 h ⟨m.val / 16 * 64 + i.val, by omega⟩ d)), if_pos (Finset.mem_univ _)]

theorem drawnQ_apply (X : FVec Ideal S1x12x2048x64 .f32) (h : Fin 12) (m : Fin 512) (d : Fin 64) :
    drawnQ X (ix4 0 h m d) = X (ix4 0 h ⟨m.val / 32 * 128 + (tokQ h ⟨m.val % 32, by omega⟩).val, by omega⟩ d) := by
  rw [drawnQ_eq]
  exact drawnOfQ_apply tableQ X h m d _ (tableQ_eq h _)

theorem drawnK_apply (X : FVec Ideal S1x12x2048x64 .f32) (h : Fin 12) (m : Fin 512) (d : Fin 64) :
    drawnK X (ix4 0 h m d) = X (ix4 0 h ⟨m.val / 16 * 64 + (tokK h ⟨m.val % 16, by omega⟩).val, by omega⟩ d) := by
  rw [drawnK_eq]
  exact drawnOfK_apply tableK X h m d _ (tableK_eq h _)

end Cert.KernelIdeal.Attn
end
-- ==== Proof.Ref.Drawn.lean ====
module

public import proofs.«01_k».proof.Proof.Sampled
public import proofs.«01_k».proof.Proof.Ref.Tokens
public import Idealize.ShloMosaic.Lib.ReduceAll

@[expose] public section

set_option maxRecDepth 16384

noncomputable section

namespace Cert.ReferenceIdeal.Attn

open Cert.ReferenceIdeal Cert.ReferenceIdeal.Gen Cert.ReferenceIdeal.Facts
open Idealize.ShloMosaic Idealize.ShloMosaic.TcCoe Idealize.ShloMosaic.Tactic Idealize.ShloMosaic.StableHlo
open Idealize.SL.Sem

/-! ## The sampled tokens -/

/-- The gathered query token. -/
theorem gatherQ_apply (X : FVec Ideal S1x12x16x128x64 .f32) (I : IVec S12x16x32x64x1 32) (h : Fin 12) (g : Fin 16) (j : Fin 32) (d : Fin 64)
    (n : Fin 128) (hI : (I (ix5 h g j d 0)).toInt = n.val) :
    Host.gather gather_S1x12x16x128x64_S12x16x32x64x1_S1x12x16x32x64_0_3_124_013_3_4_11111 X I (ix5 0 h g j d) = X (ix5 0 h g n d) := by
  have hs : gather_S1x12x16x128x64_S12x16x32x64x1_S1x12x16x32x64_0_3_124_013_3_4_11111.siIdx (ix5 0 h g j d) ⟨0, by decide⟩ = ix5 h g j d 0 := by
    funext b
    fin_cases b <;> rfl
  unfold Host.gather
  congr 1
  funext a
  refine Fin.ext ?_
  fin_cases a
  · rfl
  · exact (Nat.zero_add _).trans (Nat.add_zero _)
  · exact (Nat.zero_add _).trans (Nat.add_zero _)
  · show min (I (gather_S1x12x16x128x64_S12x16x32x64x1_S1x12x16x32x64_0_3_124_013_3_4_11111.siIdx (ix5 0 h g j d) ⟨0, by decide⟩)).toInt.toNat 127 + 0 + 0 = n.val
    rw [hs, hI]
    omega
  · exact (Nat.zero_add _).trans (Nat.add_zero _)

/-- The gathered key token. -/
theorem gatherK_apply (X : FVec Ideal S1x12x32x64x64 .f32) (I : IVec S12x32x16x64x1 32) (h : Fin 12) (g : Fin 32) (j : Fin 16) (d : Fin 64)
    (n : Fin 64) (hI : (I (ix5 h g j d 0)).toInt = n.val) :
    Host.gather gather_S1x12x32x64x64_S12x32x16x64x1_S1x12x32x16x64_0_3_124_013_3_4_11111 X I (ix5 0 h g j d) = X (ix5 0 h g n d) := by
  have hs : gather_S1x12x32x64x64_S12x32x16x64x1_S1x12x32x16x64_0_3_124_013_3_4_11111.siIdx (ix5 0 h g j d) ⟨0, by decide⟩ = ix5 h g j d 0 := by
    funext b
    fin_cases b <;> rfl
  unfold Host.gather
  congr 1
  funext a
  refine Fin.ext ?_
  fin_cases a
  · rfl
  · exact (Nat.zero_add _).trans (Nat.add_zero _)
  · exact (Nat.zero_add _).trans (Nat.add_zero _)
  · show min (I (gather_S1x12x32x64x64_S12x32x16x64x1_S1x12x32x16x64_0_3_124_013_3_4_11111.siIdx (ix5 0 h g j d) ⟨0, by decide⟩)).toInt.toNat 63 + 0 + 0 = n.val
    rw [hs, hI]
    omega
  · exact (Nat.zero_add _).trans (Nat.add_zero _)

/-- The reference's table of the drawn tokens. -/
def tableQ : IVec S1x12x1x32 32 := fun i => lit0 (S1x12x1x32.rowMajor i)

theorem tableQ_eq : ∀ (h : Fin 12) (j : Fin 32), tableQ (ix4 0 h 0 j) = BitVec.ofNat 32 (Cert.KernelIdeal.Attn.tokQ h j).val := by
  decide +kernel

/-- The table at every row that is gathered. -/
def spreadQ (T : IVec S1x12x1x32 32) : IVec S1x12x16x32x64 32 :=
  broadcastInDim S1x12x16x32x64 ![0, 1, 2, 3, 4] bcast_S1x12x1x32x1_S1x12x16x32x64_0_1_2_3_4 (broadcastInDim S1x12x1x32x1 ![0, 1, 2, 3] bcast_S1x12x1x32_S1x12x1x32x1_0_1_2_3 T)

/-- The places of the rows that are gathered. -/
def placesQ (T : IVec S1x12x1x32 32) : IVec S12x16x32x64x1 32 :=
  shapeCast _ (select (cmpi .slt (spreadQ T) (broadcastInDim S1x12x16x32x64 ![] bcast_S_S1x12x16x32x64 (constantI S_ 32 0#32))) (addi (spreadQ T) (broadcastInDim S1x12x16x32x64 ![] bcast_S_S1x12x16x32x64 (constantI S_ 32 128#32))) (spreadQ T)) shapeCasts_S1x12x16x32x64_S12x16x32x64x1

/-- Whether a place is within the block. -/
def insideQ (I : IVec S12x16x32x64x1 32) : IVec S12x16x32x64x1 1 :=
  andi (cmpi .sge I (broadcastInDim S12x16x32x64x1 ![] bcast_S_S12x16x32x64x1 (constantI S_ 32 0#32))) (cmpi .sle I (broadcastInDim S12x16x32x64x1 ![0, 1, 2, 3, 4] bcast_S1x1x1x1x1_S12x16x32x64x1_0_1_2_3_4 (broadcastInDim S1x1x1x1x1 ![4] bcast_S1_S1x1x1x1x1_4 (constantI S1 32 127#32))))

/-- The gathered tokens. -/
def takenQ (I : IVec S12x16x32x64x1 32) (X : FVec Ideal S1x12x2048x64 .f32) : FVec Ideal S1x12x512x64 .f32 :=
  shapeCast _ (select (broadcastInDim S1x12x16x32x64 ![1, 2, 3, 4] bcast_S12x16x32x64_S1x12x16x32x64_1_2_3_4 (Host.reduce IntOp.andi (insideQ I) (constantI S_ 1 1#1) reducesTo_S12x16x32x64x1_S12x16x32x64_d4 h_S_)) (Host.gather gather_S1x12x16x128x64_S12x16x32x64x1_S1x12x16x32x64_0_3_124_013_3_4_11111 (shapeCast _ X shapeCasts_S1x12x2048x64_S1x12x16x128x64) I) (broadcastInDim S1x12x16x32x64 ![] bcast_S_S1x12x16x32x64 (constant S_ .f32 0x7FC00000#32))) shapeCasts_S1x12x16x32x64_S1x12x512x64

theorem wordsQ : ∀ n : Fin 128, IntOp.cmpi .slt (BitVec.ofNat 32 n.val) 0#32 = 0#1 ∧ IntOp.andi (IntOp.cmpi .sge (BitVec.ofNat 32 n.val) 0#32) (IntOp.cmpi .sle (BitVec.ofNat 32 n.val) 127#32) = 1#1 ∧ (BitVec.ofNat 32 n.val).toInt = (n.val : ℤ) := by
  decide +kernel

theorem placesQ_apply (h : Fin 12) (g : Fin 16) (j : Fin 32) (d : Fin 64) :
    placesQ tableQ (ix5 h g j d 0) = BitVec.ofNat 32 (Cert.KernelIdeal.Attn.tokQ h j).val := by
  have e : ∀ T, placesQ T (ix5 h g j d 0) = Scalar.select (IntOp.cmpi .slt (T (ix4 0 h 0 j)) 0#32) (IntOp.addi (T (ix4 0 h 0 j)) 128#32) (T (ix4 0 h 0 j)) := by
    intro T
    unfold placesQ spreadQ
    pointwise
  rw [e, tableQ_eq, (wordsQ _).1]
  rfl

theorem insideQ_apply (y : S12x16x32x64x1.Idx) : insideQ (placesQ tableQ) y = 1#1 := by
  have hy : y = ix5 (y 0) (y 1) (y 2) (y 3) 0 := by
    funext a
    fin_cases a
    · rfl
    · rfl
    · rfl
    · rfl
    · exact Fin.ext (Nat.lt_one_iff.mp (y 4).isLt)
  have e : ∀ I, insideQ I y = IntOp.andi (IntOp.cmpi .sge (I y) 0#32) (IntOp.cmpi .sle (I y) 127#32) := by
    intro I
    rfl
  have hp : placesQ tableQ y = BitVec.ofNat 32 (Cert.KernelIdeal.Attn.tokQ (y 0) (y 2)).val :=
    (congrArg (placesQ tableQ) hy).trans (placesQ_apply (y 0) (y 1) (y 2) (y 3))
  rw [e, hp]
  exact (wordsQ _).2.1

theorem takenQ_apply (X : FVec Ideal S1x12x2048x64 .f32) (h : Fin 12) (m : Fin 512) (d : Fin 64) :
    takenQ (placesQ tableQ) X (ix4 0 h m d)
      = X (ix4 0 h ⟨m.val / 32 * 128 + (Cert.KernelIdeal.Attn.tokQ h ⟨m.val % 32, by omega⟩).val, by omega⟩ d) := by
  have hr : ∀ y, Host.reduce IntOp.andi (insideQ (placesQ tableQ)) (constantI S_ 1 1#1) reducesTo_S12x16x32x64x1_S12x16x32x64_d4 h_S_ y = 1#1 :=
    fun y => Host.reduce_andi_one _ _ _ _ y rfl insideQ_apply
  have hg := gatherQ_apply (shapeCast _ X shapeCasts_S1x12x2048x64_S1x12x16x128x64) (placesQ tableQ) h ⟨m.val / 32, by omega⟩ ⟨m.val % 32, by omega⟩ d
    (Cert.KernelIdeal.Attn.tokQ h ⟨m.val % 32, by omega⟩) (by rw [placesQ_apply]; exact (wordsQ _).2.2)
  unfold takenQ
  generalize Host.reduce IntOp.andi (insideQ (placesQ tableQ)) (constantI S_ 1 1#1) reducesTo_S12x16x32x64x1_S12x16x32x64_d4 h_S_ = R at hr ⊢
  generalize Host.gather gather_S1x12x16x128x64_S12x16x32x64x1_S1x12x16x32x64_0_3_124_013_3_4_11111 (shapeCast _ X shapeCasts_S1x12x2048x64_S1x12x16x128x64) (placesQ tableQ) = G at hg ⊢
  have e : (shapeCast S1x12x512x64 (select (broadcastInDim S1x12x16x32x64 ![1, 2, 3, 4] bcast_S12x16x32x64_S1x12x16x32x64_1_2_3_4 R) G (broadcastInDim S1x12x16x32x64 ![] bcast_S_S1x12x16x32x64 (constant S_ .f32 0x7FC00000#32))) shapeCasts_S1x12x16x32x64_S1x12x512x64 : FVec Ideal S1x12x512x64 .f32) (ix4 0 h m d)
      = Scalar.select (R (ix4 h ⟨m.val / 32, by omega⟩ ⟨m.val % 32, by omega⟩ d)) (G (ix5 0 h ⟨m.val / 32, by omega⟩ ⟨m.val % 32, by omega⟩ d)) (Ideal.ofBits .f32 0x7FC00000#32) := by
    pointwise
  rw [e, hr, hg]
  have e2 : ∀ (g : Fin 16) (n : Fin 128), (shapeCast _ X shapeCasts_S1x12x2048x64_S1x12x16x128x64) (ix5 0 h g n d) = X (ix4 0 h ⟨g.val * 128 + n.val, by omega⟩ d) := by
    intro g n
    pointwise
  rw [e2]
  rfl

/-- The reference's table of the drawn tokens. -/
def tableK : IVec S1x12x1x16 32 := fun i => lit1 (S1x12x1x16.rowMajor i)

theorem tableK_eq : ∀ (h : Fin 12) (j : Fin 16), tableK (ix4 0 h 0 j) = BitVec.ofNat 32 (Cert.KernelIdeal.Attn.tokK h j).val := by
  decide +kernel

/-- The table at every row that is gathered. -/
def spreadK (T : IVec S1x12x1x16 32) : IVec S1x12x32x16x64 32 :=
  broadcastInDim S1x12x32x16x64 ![0, 1, 2, 3, 4] bcast_S1x12x1x16x1_S1x12x32x16x64_0_1_2_3_4 (broadcastInDim S1x12x1x16x1 ![0, 1, 2, 3] bcast_S1x12x1x16_S1x12x1x16x1_0_1_2_3 T)

/-- The places of the rows that are gathered. -/
def placesK (T : IVec S1x12x1x16 32) : IVec S12x32x16x64x1 32 :=
  shapeCast _ (select (cmpi .slt (spreadK T) (broadcastInDim S1x12x32x16x64 ![] bcast_S_S1x12x32x16x64 (constantI S_ 32 0#32))) (addi (spreadK T) (broadcastInDim S1x12x32x16x64 ![] bcast_S_S1x12x32x16x64 (constantI S_ 32 64#32))) (spreadK T)) shapeCasts_S1x12x32x16x64_S12x32x16x64x1

/-- Whether a place is within the block. -/
def insideK (I : IVec S12x32x16x64x1 32) : IVec S12x32x16x64x1 1 :=
  andi (cmpi .sge I (broadcastInDim S12x32x16x64x1 ![] bcast_S_S12x32x16x64x1 (constantI S_ 32 0#32))) (cmpi .sle I (broadcastInDim S12x32x16x64x1 ![0, 1, 2, 3, 4] bcast_S1x1x1x1x1_S12x32x16x64x1_0_1_2_3_4 (broadcastInDim S1x1x1x1x1 ![4] bcast_S1_S1x1x1x1x1_4 (constantI S1 32 63#32))))

/-- The gathered tokens. -/
def takenK (I : IVec S12x32x16x64x1 32) (X : FVec Ideal S1x12x2048x64 .f32) : FVec Ideal S1x12x512x64 .f32 :=
  shapeCast _ (select (broadcastInDim S1x12x32x16x64 ![1, 2, 3, 4] bcast_S12x32x16x64_S1x12x32x16x64_1_2_3_4 (Host.reduce IntOp.andi (insideK I) (constantI S_ 1 1#1) reducesTo_S12x32x16x64x1_S12x32x16x64_d4 h_S_)) (Host.gather gather_S1x12x32x64x64_S12x32x16x64x1_S1x12x32x16x64_0_3_124_013_3_4_11111 (shapeCast _ X shapeCasts_S1x12x2048x64_S1x12x32x64x64) I) (broadcastInDim S1x12x32x16x64 ![] bcast_S_S1x12x32x16x64 (constant S_ .f32 0x7FC00000#32))) shapeCasts_S1x12x32x16x64_S1x12x512x64

theorem wordsK : ∀ n : Fin 64, IntOp.cmpi .slt (BitVec.ofNat 32 n.val) 0#32 = 0#1 ∧ IntOp.andi (IntOp.cmpi .sge (BitVec.ofNat 32 n.val) 0#32) (IntOp.cmpi .sle (BitVec.ofNat 32 n.val) 63#32) = 1#1 ∧ (BitVec.ofNat 32 n.val).toInt = (n.val : ℤ) := by
  decide +kernel

theorem placesK_apply (h : Fin 12) (g : Fin 32) (j : Fin 16) (d : Fin 64) :
    placesK tableK (ix5 h g j d 0) = BitVec.ofNat 32 (Cert.KernelIdeal.Attn.tokK h j).val := by
  have e : ∀ T, placesK T (ix5 h g j d 0) = Scalar.select (IntOp.cmpi .slt (T (ix4 0 h 0 j)) 0#32) (IntOp.addi (T (ix4 0 h 0 j)) 64#32) (T (ix4 0 h 0 j)) := by
    intro T
    unfold placesK spreadK
    pointwise
  rw [e, tableK_eq, (wordsK _).1]
  rfl

theorem insideK_apply (y : S12x32x16x64x1.Idx) : insideK (placesK tableK) y = 1#1 := by
  have hy : y = ix5 (y 0) (y 1) (y 2) (y 3) 0 := by
    funext a
    fin_cases a
    · rfl
    · rfl
    · rfl
    · rfl
    · exact Fin.ext (Nat.lt_one_iff.mp (y 4).isLt)
  have e : ∀ I, insideK I y = IntOp.andi (IntOp.cmpi .sge (I y) 0#32) (IntOp.cmpi .sle (I y) 63#32) := by
    intro I
    rfl
  have hp : placesK tableK y = BitVec.ofNat 32 (Cert.KernelIdeal.Attn.tokK (y 0) (y 2)).val :=
    (congrArg (placesK tableK) hy).trans (placesK_apply (y 0) (y 1) (y 2) (y 3))
  rw [e, hp]
  exact (wordsK _).2.1

theorem takenK_apply (X : FVec Ideal S1x12x2048x64 .f32) (h : Fin 12) (m : Fin 512) (d : Fin 64) :
    takenK (placesK tableK) X (ix4 0 h m d)
      = X (ix4 0 h ⟨m.val / 16 * 64 + (Cert.KernelIdeal.Attn.tokK h ⟨m.val % 16, by omega⟩).val, by omega⟩ d) := by
  have hr : ∀ y, Host.reduce IntOp.andi (insideK (placesK tableK)) (constantI S_ 1 1#1) reducesTo_S12x32x16x64x1_S12x32x16x64_d4 h_S_ y = 1#1 :=
    fun y => Host.reduce_andi_one _ _ _ _ y rfl insideK_apply
  have hg := gatherK_apply (shapeCast _ X shapeCasts_S1x12x2048x64_S1x12x32x64x64) (placesK tableK) h ⟨m.val / 16, by omega⟩ ⟨m.val % 16, by omega⟩ d
    (Cert.KernelIdeal.Attn.tokK h ⟨m.val % 16, by omega⟩) (by rw [placesK_apply]; exact (wordsK _).2.2)
  unfold takenK
  generalize Host.reduce IntOp.andi (insideK (placesK tableK)) (constantI S_ 1 1#1) reducesTo_S12x32x16x64x1_S12x32x16x64_d4 h_S_ = R at hr ⊢
  generalize Host.gather gather_S1x12x32x64x64_S12x32x16x64x1_S1x12x32x16x64_0_3_124_013_3_4_11111 (shapeCast _ X shapeCasts_S1x12x2048x64_S1x12x32x64x64) (placesK tableK) = G at hg ⊢
  have e : (shapeCast S1x12x512x64 (select (broadcastInDim S1x12x32x16x64 ![1, 2, 3, 4] bcast_S12x32x16x64_S1x12x32x16x64_1_2_3_4 R) G (broadcastInDim S1x12x32x16x64 ![] bcast_S_S1x12x32x16x64 (constant S_ .f32 0x7FC00000#32))) shapeCasts_S1x12x32x16x64_S1x12x512x64 : FVec Ideal S1x12x512x64 .f32) (ix4 0 h m d)
      = Scalar.select (R (ix4 h ⟨m.val / 16, by omega⟩ ⟨m.val % 16, by omega⟩ d)) (G (ix5 0 h ⟨m.val / 16, by omega⟩ ⟨m.val % 16, by omega⟩ d)) (Ideal.ofBits .f32 0x7FC00000#32) := by
    pointwise
  rw [e, hr, hg]
  have e2 : ∀ (g : Fin 32) (n : Fin 64), (shapeCast _ X shapeCasts_S1x12x2048x64_S1x12x32x64x64) (ix5 0 h g n d) = X (ix4 0 h ⟨g.val * 64 + n.val, by omega⟩ d) := by
    intro g n
    pointwise
  rw [e2]
  rfl

/-- The reference and the kernel draw the same query tokens. -/
theorem takenQ_eq (X : FVec Ideal S1x12x2048x64 .f32) : takenQ (placesQ tableQ) X = Cert.KernelIdeal.Attn.drawnQ X := by
  funext y
  have hy : y = ix4 0 (y 1) (y 2) (y 3) := by
    funext a
    fin_cases a
    · exact Fin.ext (Nat.lt_one_iff.mp (y 0).isLt)
    · rfl
    · rfl
    · rfl
  exact (congrArg (takenQ (placesQ tableQ) X) hy).trans ((takenQ_apply X (y 1) (y 2) (y 3)).trans
    ((Cert.KernelIdeal.Attn.drawnQ_apply X (y 1) (y 2) (y 3)).symm.trans (congrArg (Cert.KernelIdeal.Attn.drawnQ X) hy).symm))

/-- The reference and the kernel draw the same key tokens. -/
theorem takenK_eq (X : FVec Ideal S1x12x2048x64 .f32) : takenK (placesK tableK) X = Cert.KernelIdeal.Attn.drawnK X := by
  funext y
  have hy : y = ix4 0 (y 1) (y 2) (y 3) := by
    funext a
    fin_cases a
    · exact Fin.ext (Nat.lt_one_iff.mp (y 0).isLt)
    · rfl
    · rfl
    · rfl
  exact (congrArg (takenK (placesK tableK) X) hy).trans ((takenK_apply X (y 1) (y 2) (y 3)).trans
    ((Cert.KernelIdeal.Attn.drawnK_apply X (y 1) (y 2) (y 3)).symm.trans (congrArg (Cert.KernelIdeal.Attn.drawnK X) hy).symm))

end Cert.ReferenceIdeal.Attn
end
-- ==== Proof.Ref.Levels.lean ====
module

public import proofs.«01_k».proof.Proof.Ref.Sort
public import proofs.«01_k».proof.Proof.Ref.Drawn
public import proofs.«01_k».proof.Proof.Ref.Out

@[expose] public section

set_option maxRecDepth 16384

noncomputable section

namespace Cert.ReferenceIdeal.Attn

open Cert.ReferenceIdeal Cert.ReferenceIdeal.Gen Cert.ReferenceIdeal.Facts
open Idealize.ShloMosaic Idealize.ShloMosaic.TcCoe Idealize.ShloMosaic.Tactic Idealize.ShloMosaic.StableHlo
open Idealize.SL.Sem

/-! ## The levels of the blocks -/

/-- The reference sorts by the negated block weights. -/
theorem negated (m : (ℓ : Loc nD τ sig) → Buf (Elt Ideal) ℓ) (c : Dev nD) :
    Value.res_main_v29 (launchContents m c) = Host.negf (Cert.KernelIdeal.Attn.blockWeights
      (takenQ (placesQ tableQ) (m ((c.tc : Thread nD τ).loc main_arg0))) (takenK (placesK tableK) (m ((c.tc : Thread nD τ).loc main_arg1)))) := by
  sl_kernel_rfl

theorem levels_eq (m : (ℓ : Loc nD τ sig) → Buf (Elt Ideal) ℓ) (c : Dev nD) :
    levels m c = levelsOf (positions (Value.res_main_v29 (launchContents m c))) := by
  sl_kernel_rfl

/-- The level of a block is that of its rank by weight. -/
theorem levels_apply (m : (ℓ : Loc nD τ sig) → Buf (Elt Ideal) ℓ) (c : Dev nD) (h : Fin 12) (g : Fin 16) (b : Fin 32) :
    levels m c (ix4 0 h g b) = levelOf (Cert.KernelIdeal.Attn.rk (Cert.KernelIdeal.Attn.rowOf
      (Cert.KernelIdeal.Attn.weights (m ((c.tc : Thread nD τ).loc main_arg0)) (m ((c.tc : Thread nD τ).loc main_arg1))) h g) b) := by
  rw [levels_eq, negated, takenQ_eq, takenK_eq]
  refine levelsOf_apply _ h g b _ (positions_apply _ h g _ (fun b' => ?_) b)
  rfl

end Cert.ReferenceIdeal.Attn
end
-- ==== Proof.Algebraic.lean ====
module

public import proofs.«01_k».proof.Proof.Frames
public import proofs.«01_k».proof.Proof.Same
public import proofs.«01_k».proof.Proof.Result
public import proofs.«01_k».proof.Proof.Ref.Levels

@[expose] public section

set_option maxRecDepth 16384

noncomputable section

namespace Cert.KernelIdeal.Attn

open Cert.KernelIdeal.Gen
open Cert.KernelIdeal.Facts
open Idealize.ShloMosaic Idealize.ShloMosaic.TcCoe Idealize.ShloMosaic.Tactic
open Idealize.SL.Sem

/-! ## The kernel computes the reference's attention -/

/-- A value whose magnitude is below infinity is a real number. -/
theorem isReal_of_abs (a : EReal) (h : max a (-a) < ⊤) : IsReal a := by
  induction a with
  | bot => simp at h
  | top => simp at h
  | coe r => exact ⟨r, rfl⟩

theorem top_word : (Ideal.ofBits .f32 0x7F800000#32 : EReal) = ⊤ := by simp [Ideal.ofBits, Ideal.ieee]

theorem and_bits (a b : Bool) : IntOp.andi (BitVec.ofBool a) (BitVec.ofBool b) = 1#1 ↔ a = true ∧ b = true := by
  cases a <;> cases b <;> decide

/-- The precondition: the queries and the keys are real numbers. -/
theorem real_of_pre [Cert.Pre_finite.Facts] (q k v : FVec Ideal S1x12x2048x64 .f32) (h : Cert.Pre_finite.fn q k v = fun _ => 1#1) (i : S1x12x2048x64.Idx) :
    IsReal (q i) ∧ IsReal (k i) := by
  have e : Cert.Pre_finite.fn q k v i = IntOp.andi (BitVec.ofBool (decide (max (q i) (-(q i)) < Ideal.ofBits .f32 0x7F800000#32)))
      (BitVec.ofBool (decide (max (k i) (-(k i)) < Ideal.ofBits .f32 0x7F800000#32))) := rfl
  rw [h, top_word] at e
  have := (and_bits _ _).mp e.symm
  exact ⟨isReal_of_abs _ (of_decide_eq_true this.1), isReal_of_abs _ (of_decide_eq_true this.2)⟩

/-- The kernel's result array is the reference's result, at levels that follow the ranks. -/
theorem array_eq (m : (ℓ : Loc nD τ sig) → Buf (Elt Ideal) ℓ) (c : Dev nD)
    (hq : ∀ i, IsReal (m ((c : Thread nD τ).loc main_arg0) i)) (hk : ∀ i, IsReal (m ((c : Thread nD τ).loc main_arg1) i)) (lev : IVec S1x12x16x32 32)
    (hlev : ∀ (h : Fin 12) (g : Fin 16) (b : Fin 32), lev (ix4 0 h g b)
      = Cert.ReferenceIdeal.Attn.levelOf (rk (rowOf (weights (m ((c : Thread nD τ).loc main_arg0)) (m ((c : Thread nD τ).loc main_arg1))) h g) b)) :
    (dats m 0 c).arrAt 4 (cfgs 0).N = Cert.ReferenceIdeal.Attn.result lev (m ((c : Thread nD τ).loc main_arg0)) (m ((c : Thread nD τ).loc main_arg1)) (m ((c : Thread nD τ).loc main_arg2)) := by
  refine result_eq m c _ fun t r d => ?_
  have ht : t.val < 192 := Nat.lt_of_lt_of_eq t.isLt N_0
  have hh : t.val / 16 = (⟨t.val / 16 % 12, by omega⟩ : Fin 12).val := by simp only; omega
  have hc0 : grid0.coords t 0 = (⟨t.val / 16 % 12, by omega⟩ : Fin 12) := Fin.ext ((coords0 t).trans hh)
  have hc1 : grid0.coords t 1 = (⟨t.val % 16, by omega⟩ : Fin 16) := Fin.ext (coords1 t)
  have hw : ∀ j, wordAt (grid0.coords t) (iblk m c 0 t) j
      = BitVec.ofNat 32 (blockAt (rowOf (weights (m ((c : Thread nD τ).loc main_arg0)) (m ((c : Thread nD τ).loc main_arg1))) ⟨t.val / 16 % 12, by omega⟩ ⟨t.val % 16, by omega⟩) j).val := by
    intro j
    unfold wordAt
    rw [iblk0]
    refine (order_apply _ _ (grid0.coords t 0) (grid0.coords t 1) j).trans ?_
    rw [hc0, hc1]
  unfold outAt
  refine (congrArg (fun n => outBlock (F := Ideal) (wordAt (grid0.coords t) (iblk m c 0 t)) (iblk m c 1 t) (headOf (F := Ideal) (m ((c : Thread nD τ).loc main_arg1)) n)
    (headOf (F := Ideal) (m ((c : Thread nD τ).loc main_arg2)) n) (ix4 0 0 r d)) hh).trans ?_
  exact block_eq _ _ _ hq hk lev ⟨t.val / 16 % 12, by omega⟩ ⟨t.val % 16, by omega⟩ _ (hlev _ _) _ hw _ (fun r d => iblk1_apply m c t r d) r d

end Cert.KernelIdeal.Attn

namespace Cert.Frames

open Idealize.ShloMosaic Idealize.SL.Sem

/-- On real queries and keys the kernel and the reference end with equal results. -/
theorem algebraic : Cert.algebraic_KernelIdeal_ReferenceIdeal_pre_finite := by
  intro m g m' g' hpre harg
  refine ⟨fun c => Cert.ReferenceIdeal.Attn.result (Cert.ReferenceIdeal.Attn.levels m' c) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ⟨?_, h.2 c⟩)
      (θ_run_and (Cert.KernelIdeal.Attn.run_main m g (Cert.KernelIdeal.Attn.orderOK_ideal m)) (Cert.KernelIdeal.Attn.unchanged m g (Cert.KernelIdeal.Attn.orderOK_ideal m)))
    refine ((h.1 c).1 4).trans (Cert.KernelIdeal.Attn.array_eq m c (fun i => (Cert.KernelIdeal.Attn.real_of_pre _ _ _ (hpre c) i).1)
      (fun i => (Cert.KernelIdeal.Attn.real_of_pre _ _ _ (hpre c) i).2) _ fun h g b => ?_)
    rw [Cert.ReferenceIdeal.Attn.levels_apply, (harg c).1, (harg c).2.1]
  · refine (θ_run Cert.ReferenceIdeal.defs _ _).mono (fun r h c => ⟨(h c).1.trans ?_, (h c).2⟩) (Cert.ReferenceIdeal.Attn.run m' g')
    rw [(harg c).1, (harg c).2.1, (harg c).2.2]

end Cert.Frames
end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Frames.preFacts, Cert.Frames.finiteFacts,
  Cert.Frames.frame_p, Cert.Frames.frame_pi, Cert.Frames.frame_pi_pre, Cert.Frames.frame_pi_finite, Cert.Frames.frame_ri, Cert.Frames.frame_ri_finite,
  Cert.Frames.preserves, Cert.Frames.algebraic⟩

end Cert.Proof

end
